-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S1 : Shape := ⟨1, ![1]⟩
abbrev S319999 : Shape := ⟨1, ![319999]⟩
abbrev S_ : Shape := ⟨0, ![]⟩

class Facts : Prop where
  slices_S320000_S1_0 : S320000.Slices ![0] S1
  slices_S320000_S319999_0 : S320000.Slices ![0] S319999
  concatenates_S1_S319999_S320000_d0 : Shape.Concatenates [S1, S319999] S320000 0
  bcast_S_S320000 : S_.BroadcastsInDim S320000 (![] : Fin 0 → Fin S320000.rank)

variable [Facts]

def fn {F : FTy → Type} [FloatOps F] (main_arg0 : FVec F S320000x128 .f32) (main_arg1 : FVec F S320000x3 .f32) (main_arg2 : IVec S320000 32) (main_arg3 : FVec F S131x128 .f32) (main_arg4 : FVec F S128 .f32) : IVec S320000 1 :=
  let main_v0 : IVec S1 32 := (extractStridedSlice S1 ![0] · slices_S320000_S1_0) main_arg2
  let main_v1 : IVec S319999 32 := (extractStridedSlice S319999 ![0] · slices_S320000_S319999_0) main_arg2
  let main_v2 : IVec S320000 32 := (fun a b => concatenate S320000 0 [⟨S1, a⟩, ⟨S319999, b⟩] concatenates_S1_S319999_S320000_d0) main_v0 main_v1
  let main_c : IVec S_ 32 := constantI S_ 32 0#32
  let main_v3 : IVec S320000 32 := broadcastInDim S320000 ![] bcast_S_S320000 main_c
  let main_v4 : IVec S320000 1 := cmpi .sge main_arg2 main_v3
  let main_c_0 : IVec S_ 32 := constantI S_ 32 1024#32
  let main_v5 : IVec S320000 32 := broadcastInDim S320000 ![] bcast_S_S320000 main_c_0
  let main_v6 : IVec S320000 1 := cmpi .slt main_arg2 main_v5
  let main_v7 : IVec S320000 1 := andi main_v4 main_v6
  let main_v8 : IVec S320000 1 := cmpi .sle main_v2 main_arg2
  let main_v9 : IVec S320000 1 := andi main_v7 main_v8
  main_v9
-- ==== Kernel.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S1025 : Shape := ⟨1, ![1025]⟩
abbrev S1x1025 : Shape := ⟨2, ![1, 1025]⟩
abbrev S320000x1 : Shape := ⟨2, ![320000, 1]⟩
abbrev S320000x1025 : Shape := ⟨2, ![320000, 1025]⟩
abbrev S_ : Shape := ⟨0, ![]⟩
abbrev S100 : Shape := ⟨1, ![100]⟩
abbrev S1225 : Shape := ⟨1, ![1225]⟩
abbrev S128x128 : Shape := ⟨2, ![128, 128]⟩
abbrev S320000x4 : Shape := ⟨2, ![320000, 4]⟩
abbrev S3x128 : Shape := ⟨2, ![3, 128]⟩
abbrev S1x128 : Shape := ⟨2, ![1, 128]⟩
abbrev S4x128 : Shape := ⟨2, ![4, 128]⟩
abbrev S1024x3 : Shape := ⟨2, ![1024, 3]⟩
abbrev S1024 : Shape := ⟨1, ![1024]⟩
abbrev S1024x128 : Shape := ⟨2, ![1024, 128]⟩
abbrev S3200x128 : Shape := ⟨2, ![3200, 128]⟩
abbrev S3200x4 : Shape := ⟨2, ![3200, 4]⟩
abbrev S8192x128 : Shape := ⟨2, ![8192, 128]⟩
abbrev S1 : Shape := ⟨1, ![1]⟩
abbrev S32x1 : Shape := ⟨2, ![32, 1]⟩
abbrev S8x128 : Shape := ⟨2, ![8, 128]⟩
abbrev S32x128 : Shape := ⟨2, ![32, 128]⟩
abbrev S4x8x128 : Shape := ⟨3, ![4, 8, 128]⟩
abbrev S128x8x128 : Shape := ⟨3, ![128, 8, 128]⟩

abbrev nBuf : Space → Nat
  | .hbm => 27
  | .vmem => 10
  | .smem => 1
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S1025, .i32⟩
  | .hbm, ⟨6, _⟩ => ⟨S1x1025, .i32⟩
  | .hbm, ⟨7, _⟩ => ⟨S320000x1, .i32⟩
  | .hbm, ⟨8, _⟩ => ⟨S320000x1025, .i32⟩
  | .hbm, ⟨9, _⟩ => ⟨S320000x1025, .i32⟩
  | .hbm, ⟨10, _⟩ => ⟨S320000x1025, .i1⟩
  | .hbm, ⟨11, _⟩ => ⟨S320000x1025, .i32⟩
  | .hbm, ⟨12, _⟩ => ⟨S_, .i32⟩
  | .hbm, ⟨13, _⟩ => ⟨S1025, .i32⟩
  | .hbm, ⟨14, _⟩ => ⟨S100, .i32⟩
  | .hbm, ⟨15, _⟩ => ⟨S100, .i32⟩
  | .hbm, ⟨16, _⟩ => ⟨S128x128, .f32⟩
  | .hbm, ⟨17, _⟩ => ⟨S_, .f32⟩
  | .hbm, ⟨18, _⟩ => ⟨S320000x1, .f32⟩
  | .hbm, ⟨19, _⟩ => ⟨S320000x4, .f32⟩
  | .hbm, ⟨20, _⟩ => ⟨S3x128, .f32⟩
  | .hbm, ⟨21, _⟩ => ⟨S1x128, .f32⟩
  | .hbm, ⟨22, _⟩ => ⟨S4x128, .f32⟩
  | .hbm, ⟨23, _⟩ => ⟨S_, .f32⟩
  | .hbm, ⟨24, _⟩ => ⟨S1024x3, .f32⟩
  | .hbm, ⟨25, _⟩ => ⟨S1024, .i32⟩
  | .hbm, ⟨26, _⟩ => ⟨S1024x128, .f32⟩
  | .local _ .vmem, ⟨0, _⟩ => ⟨S3200x128, .f32⟩
  | .local _ .vmem, ⟨1, _⟩ => ⟨S3200x128, .f32⟩
  | .local _ .vmem, ⟨2, _⟩ => ⟨S3200x4, .f32⟩
  | .local _ .vmem, ⟨3, _⟩ => ⟨S3200x4, .f32⟩
  | .local _ .vmem, ⟨4, _⟩ => ⟨S128x128, .f32⟩
  | .local _ .vmem, ⟨5, _⟩ => ⟨S4x128, .f32⟩
  | .local _ .vmem, ⟨6, _⟩ => ⟨S128x128, .f32⟩
  | .local _ .vmem, ⟨7, _⟩ => ⟨S128x128, .f32⟩
  | .local _ .vmem, ⟨8, _⟩ => ⟨S8192x128, .f32⟩
  | .local _ .vmem, ⟨9, _⟩ => ⟨S3200x128, .f32⟩
  | .local _ .smem, ⟨0, _⟩ => ⟨S1225, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![108], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c100_i32 : BitVec 32 := 100#32
  let v3 : BitVec 1 := Scalar.cmpi .slt arg0 c100_i32
  let v4 : BitVec 32 := Scalar.extui v3
  let c0_i32_1 : BitVec 32 := 0#32
  let v5 : BitVec 1 := Scalar.cmpi .ne v4 c0_i32_1
  v5

def k0_off1 (i : grid0.Coords) (c1025_i32 : BitVec 32) : Fin 1 → Nat :=
  let arg0 : BitVec 32 := BitVec.ofNat 32 (i 0).val
  let v23 : BitVec 32 := Scalar.addi c1025_i32 arg0
  let v24 : Index := Scalar.indexCast v23
  ![v24.toNat]
@[reducible] def k0_t1_loop (v25 : BitVec 32) (v28 : BitVec 32) : Scf.Loop 32 :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let c1_i32_16 : BitVec 32 := 1#32
  ⟨v25, v35, c1_i32_16⟩

def k0_off2 (v25 : BitVec 32) (v28 : BitVec 32) (k0_t1 : Fin (k0_t1_loop v25 v28).trips) : Fin 1 → Nat :=
  let c1_i32_16 : BitVec 32 := 1#32
  let arg9 : BitVec 32 := Scf.iv v25 c1_i32_16 k0_t1
  let v38 : Index := Scalar.indexCast arg9
  ![v38.toNat]
def k0_off3 (v25 : BitVec 32) (v28 : BitVec 32) (k0_t1 : Fin (k0_t1_loop v25 v28).trips) : Fin 1 → Nat :=
  let c1_i32_16 : BitVec 32 := 1#32
  let arg9 : BitVec 32 := Scf.iv v25 c1_i32_16 k0_t1
  let c1_i32_19 : BitVec 32 := 1#32
  let v42 : BitVec 32 := Scalar.addi arg9 c1_i32_19
  let v43 : Index := Scalar.indexCast v42
  ![v43.toNat]
@[reducible] def k0_t2_loop (i : grid0.Coords) (v39 : BitVec 32) (v44 : BitVec 32) : Scf.Loop 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_38 : BitVec 32 := 1#32
  ⟨v63, v88, c1_i32_38⟩

def k0_mult1 (i : grid0.Coords) (v39 : BitVec 32) (v44 : BitVec 32) (k0_t2 : Fin (k0_t2_loop i v39 v44).trips) : BitVec 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let c1_i32_38 : BitVec 32 := 1#32
  let arg11 : BitVec 32 := Scf.iv v63 c1_i32_38 k0_t2
  let c32_i32_43 : BitVec 32 := 32#32
  let v100 : BitVec 32 := Scalar.muli arg11 c32_i32_43
  v100
def k0_off4 (i : grid0.Coords) (v39 : BitVec 32) (v44 : BitVec 32) (k0_t2 : Fin (k0_t2_loop i v39 v44).trips) : Fin 2 → Nat :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let c1_i32_38 : BitVec 32 := 1#32
  let arg11 : BitVec 32 := Scf.iv v63 c1_i32_38 k0_t2
  let c32_i32_43 : BitVec 32 := 32#32
  let v100 : BitVec 32 := Scalar.muli arg11 c32_i32_43
  let v101 : BitVec 32 := v100
  let v102 : Index := Scalar.indexCast v101
  let c0_44 : Index := 0#32
  ![v102.toNat, 0]
@[reducible] def k0_t3_loop (i : grid0.Coords) (v39 : BitVec 32) (v44 : BitVec 32) : Scf.Loop 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let v85 : BitVec 32 := Scalar.addi v63 v84
  let c1_i32_39 : BitVec 32 := 1#32
  ⟨v88, v85, c1_i32_39⟩
def k0_mult2 (i : grid0.Coords) (v39 : BitVec 32) (v44 : BitVec 32) (k0_t3 : Fin (k0_t3_loop i v39 v44).trips) : BitVec 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_39 : BitVec 32 := 1#32
  let arg11 : BitVec 32 := Scf.iv v88 c1_i32_39 k0_t3
  let c32_i32_43 : BitVec 32 := 32#32
  let v100 : BitVec 32 := Scalar.muli arg11 c32_i32_43
  v100
def k0_off5 (i : grid0.Coords) (v39 : BitVec 32) (v44 : BitVec 32) (k0_t3 : Fin (k0_t3_loop i v39 v44).trips) : Fin 2 → Nat :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_39 : BitVec 32 := 1#32
  let arg11 : BitVec 32 := Scf.iv v88 c1_i32_39 k0_t3
  let c32_i32_43 : BitVec 32 := 32#32
  let v100 : BitVec 32 := Scalar.muli arg11 c32_i32_43
  let v101 : BitVec 32 := v100
  let v102 : Index := Scalar.indexCast v101
  let c0_44 : Index := 0#32
  ![v102.toNat, 0]

def k0_chk2 (i : grid0.Coords) (v39 : BitVec 32) (v44 : BitVec 32) : Prop :=
  (∀ (k0_h2 : k0_cond2 i = 1#1), (k0_t2_loop i v39 v44).OK) ∧
  (∀ k0_t2 : Fin (k0_t2_loop i v39 v44).trips, ∀ (k0_h2 : k0_cond2 i = 1#1), 32 ∣ (k0_mult1 i v39 v44 k0_t2).toNat) ∧
  (∀ k0_t2 : Fin (k0_t2_loop i v39 v44).trips, ∀ (k0_h2 : k0_cond2 i = 1#1), ∀ a, (k0_off4 i v39 v44 k0_t2) a + S32x128.size a ≤ S3200x128.size a) ∧
  (∀ (k0_h2 : k0_cond2 i = 1#1), (k0_t3_loop i v39 v44).OK) ∧
  (∀ k0_t3 : Fin (k0_t3_loop i v39 v44).trips, ∀ (k0_h2 : k0_cond2 i = 1#1), 32 ∣ (k0_mult2 i v39 v44 k0_t3).toNat) ∧
  (∀ k0_t3 : Fin (k0_t3_loop i v39 v44).trips, ∀ (k0_h2 : k0_cond2 i = 1#1), ∀ a, (k0_off5 i v39 v44 k0_t3) a + S32x128.size a ≤ S3200x128.size a)
theorem k0_t2_ok : ∀ (i : grid0.Coords) (v39 : BitVec 32) (v44 : BitVec 32) (k0_hw2 : k0_chk2 i v39 v44), ∀ (k0_h2 : k0_cond2 i = 1#1), (k0_t2_loop i v39 v44).OK := fun i v39 v44 k0_hw2 k0_h2 => k0_hw2.1 k0_h2
theorem k0_mult1_dvd : ∀ (i : grid0.Coords) (v39 : BitVec 32) (v44 : BitVec 32) (k0_hw2 : k0_chk2 i v39 v44) (k0_t2 : Fin (k0_t2_loop i v39 v44).trips), ∀ (k0_h2 : k0_cond2 i = 1#1), 32 ∣ (k0_mult1 i v39 v44 k0_t2).toNat := fun i v39 v44 k0_hw2 k0_t2 k0_h2 => k0_hw2.2.1 k0_t2 k0_h2
theorem k0_off4_inb : ∀ (i : grid0.Coords) (v39 : BitVec 32) (v44 : BitVec 32) (k0_hw2 : k0_chk2 i v39 v44) (k0_t2 : Fin (k0_t2_loop i v39 v44).trips), ∀ (k0_h2 : k0_cond2 i = 1#1), ∀ a, (k0_off4 i v39 v44 k0_t2) a + S32x128.size a ≤ S3200x128.size a := fun i v39 v44 k0_hw2 k0_t2 k0_h2 => k0_hw2.2.2.1 k0_t2 k0_h2
theorem k0_t3_ok : ∀ (i : grid0.Coords) (v39 : BitVec 32) (v44 : BitVec 32) (k0_hw2 : k0_chk2 i v39 v44), ∀ (k0_h2 : k0_cond2 i = 1#1), (k0_t3_loop i v39 v44).OK := fun i v39 v44 k0_hw2 k0_h2 => k0_hw2.2.2.2.1 k0_h2
theorem k0_mult2_dvd : ∀ (i : grid0.Coords) (v39 : BitVec 32) (v44 : BitVec 32) (k0_hw2 : k0_chk2 i v39 v44) (k0_t3 : Fin (k0_t3_loop i v39 v44).trips), ∀ (k0_h2 : k0_cond2 i = 1#1), 32 ∣ (k0_mult2 i v39 v44 k0_t3).toNat := fun i v39 v44 k0_hw2 k0_t3 k0_h2 => k0_hw2.2.2.2.2.1 k0_t3 k0_h2
theorem k0_off5_inb : ∀ (i : grid0.Coords) (v39 : BitVec 32) (v44 : BitVec 32) (k0_hw2 : k0_chk2 i v39 v44) (k0_t3 : Fin (k0_t3_loop i v39 v44).trips), ∀ (k0_h2 : k0_cond2 i = 1#1), ∀ a, (k0_off5 i v39 v44 k0_t3) a + S32x128.size a ≤ S3200x128.size a := fun i v39 v44 k0_hw2 k0_t3 k0_h2 => k0_hw2.2.2.2.2.2 k0_t3 k0_h2

def k0_mult3 (v25 : BitVec 32) (v28 : BitVec 32) (k0_t1 : Fin (k0_t1_loop v25 v28).trips) : BitVec 32 :=
  let c1_i32_16 : BitVec 32 := 1#32
  let arg9 : BitVec 32 := Scf.iv v25 c1_i32_16 k0_t1
  let c8_i32 : BitVec 32 := 8#32
  let v91 : BitVec 32 := Scalar.muli arg9 c8_i32
  v91
def k0_off6 (v25 : BitVec 32) (v28 : BitVec 32) (k0_t1 : Fin (k0_t1_loop v25 v28).trips) : Fin 2 → Nat :=
  let c1_i32_16 : BitVec 32 := 1#32
  let arg9 : BitVec 32 := Scf.iv v25 c1_i32_16 k0_t1
  let c8_i32 : BitVec 32 := 8#32
  let v91 : BitVec 32 := Scalar.muli arg9 c8_i32
  let v92 : BitVec 32 := v91
  let v93 : Index := Scalar.indexCast v92
  let c0_40 : Index := 0#32
  ![v93.toNat, 0]
@[reducible] def k0_t4_loop (v25 : BitVec 32) (v28 : BitVec 32) : Scf.Loop 32 :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let v32 : BitVec 32 := Scalar.addi v25 v31
  let c1_i32_17 : BitVec 32 := 1#32
  ⟨v35, v32, c1_i32_17⟩
def k0_off7 (v25 : BitVec 32) (v28 : BitVec 32) (k0_t4 : Fin (k0_t4_loop v25 v28).trips) : Fin 1 → Nat :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let c1_i32_17 : BitVec 32 := 1#32
  let arg9 : BitVec 32 := Scf.iv v35 c1_i32_17 k0_t4
  let v38 : Index := Scalar.indexCast arg9
  ![v38.toNat]
def k0_off8 (v25 : BitVec 32) (v28 : BitVec 32) (k0_t4 : Fin (k0_t4_loop v25 v28).trips) : Fin 1 → Nat :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let c1_i32_17 : BitVec 32 := 1#32
  let arg9 : BitVec 32 := Scf.iv v35 c1_i32_17 k0_t4
  let c1_i32_19 : BitVec 32 := 1#32
  let v42 : BitVec 32 := Scalar.addi arg9 c1_i32_19
  let v43 : Index := Scalar.indexCast v42
  ![v43.toNat]
@[reducible] def k0_t5_loop (i : grid0.Coords) (v39 : BitVec 32) (v44 : BitVec 32) : Scf.Loop 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_38 : BitVec 32 := 1#32
  ⟨v63, v88, c1_i32_38⟩

def k0_mult4 (i : grid0.Coords) (v39 : BitVec 32) (v44 : BitVec 32) (k0_t5 : Fin (k0_t5_loop i v39 v44).trips) : BitVec 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let c1_i32_38 : BitVec 32 := 1#32
  let arg11 : BitVec 32 := Scf.iv v63 c1_i32_38 k0_t5
  let c32_i32_43 : BitVec 32 := 32#32
  let v100 : BitVec 32 := Scalar.muli arg11 c32_i32_43
  v100
def k0_off9 (i : grid0.Coords) (v39 : BitVec 32) (v44 : BitVec 32) (k0_t5 : Fin (k0_t5_loop i v39 v44).trips) : Fin 2 → Nat :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let c1_i32_38 : BitVec 32 := 1#32
  let arg11 : BitVec 32 := Scf.iv v63 c1_i32_38 k0_t5
  let c32_i32_43 : BitVec 32 := 32#32
  let v100 : BitVec 32 := Scalar.muli arg11 c32_i32_43
  let v101 : BitVec 32 := v100
  let v102 : Index := Scalar.indexCast v101
  let c0_44 : Index := 0#32
  ![v102.toNat, 0]
@[reducible] def k0_t6_loop (i : grid0.Coords) (v39 : BitVec 32) (v44 : BitVec 32) : Scf.Loop 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let v85 : BitVec 32 := Scalar.addi v63 v84
  let c1_i32_39 : BitVec 32 := 1#32
  ⟨v88, v85, c1_i32_39⟩
def k0_mult5 (i : grid0.Coords) (v39 : BitVec 32) (v44 : BitVec 32) (k0_t6 : Fin (k0_t6_loop i v39 v44).trips) : BitVec 32 :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_39 : BitVec 32 := 1#32
  let arg11 : BitVec 32 := Scf.iv v88 c1_i32_39 k0_t6
  let c32_i32_43 : BitVec 32 := 32#32
  let v100 : BitVec 32 := Scalar.muli arg11 c32_i32_43
  v100
def k0_off10 (i : grid0.Coords) (v39 : BitVec 32) (v44 : BitVec 32) (k0_t6 : Fin (k0_t6_loop i v39 v44).trips) : Fin 2 → Nat :=
  let arg0 : BitVec 32 := BitVec.ofNat 32 (i 0).val
  let c3200_i32 : BitVec 32 := 3200#32
  let v22 : BitVec 32 := Scalar.muli arg0 c3200_i32
  let v40 : BitVec 32 := Scalar.subi v39 v22
  let c0_i32_18 : BitVec 32 := 0#32
  let v41 : BitVec 32 := Scalar.maxsi v40 c0_i32_18
  let c0_i32_21 : BitVec 32 := 0#32
  let v48 : BitVec 1 := Scalar.cmpi .sgt v41 c0_i32_21
  let v49 : BitVec 32 := Scalar.extui v48
  let c0_i32_22 : BitVec 32 := 0#32
  let v50 : BitVec 1 := Scalar.cmpi .slt v41 c0_i32_22
  let v51 : BitVec 32 := Scalar.extui v50
  let v52 : BitVec 32 := Scalar.subi v49 v51
  let c32_i32 : BitVec 32 := 32#32
  let c0_i32_23 : BitVec 32 := 0#32
  let v53 : BitVec 1 := Scalar.cmpi .sgt c32_i32 c0_i32_23
  let v54 : BitVec 32 := Scalar.extui v53
  let c0_i32_24 : BitVec 32 := 0#32
  let v55 : BitVec 1 := Scalar.cmpi .slt c32_i32 c0_i32_24
  let v56 : BitVec 32 := Scalar.extui v55
  let v57 : BitVec 32 := Scalar.subi v54 v56
  let v58 : BitVec 1 := Scalar.cmpi .ne v52 v57
  let v59 : BitVec 32 := Scalar.remsi v41 c32_i32
  let c0_i32_25 : BitVec 32 := 0#32
  let v60 : BitVec 1 := Scalar.cmpi .ne v59 c0_i32_25
  let v61 : BitVec 1 := Scalar.andi v58 v60
  let v47 : BitVec 32 := Scalar.divsi v41 c32_i32
  let c1_i32_26 : BitVec 32 := 1#32
  let v62 : BitVec 32 := Scalar.subi v47 c1_i32_26
  let v63 : BitVec 32 := Scalar.select v61 v62 v47
  let v45 : BitVec 32 := Scalar.subi v44 v22
  let c3200_i32_20 : BitVec 32 := 3200#32
  let v46 : BitVec 32 := Scalar.minsi v45 c3200_i32_20
  let c32_i32_27 : BitVec 32 := 32#32
  let v64 : BitVec 32 := Scalar.addi v46 c32_i32_27
  let c1_i32_28 : BitVec 32 := 1#32
  let v65 : BitVec 32 := Scalar.subi v64 c1_i32_28
  let c0_i32_30 : BitVec 32 := 0#32
  let v67 : BitVec 1 := Scalar.cmpi .sgt v65 c0_i32_30
  let v68 : BitVec 32 := Scalar.extui v67
  let c0_i32_31 : BitVec 32 := 0#32
  let v69 : BitVec 1 := Scalar.cmpi .slt v65 c0_i32_31
  let v70 : BitVec 32 := Scalar.extui v69
  let v71 : BitVec 32 := Scalar.subi v68 v70
  let c32_i32_29 : BitVec 32 := 32#32
  let c0_i32_32 : BitVec 32 := 0#32
  let v72 : BitVec 1 := Scalar.cmpi .sgt c32_i32_29 c0_i32_32
  let v73 : BitVec 32 := Scalar.extui v72
  let c0_i32_33 : BitVec 32 := 0#32
  let v74 : BitVec 1 := Scalar.cmpi .slt c32_i32_29 c0_i32_33
  let v75 : BitVec 32 := Scalar.extui v74
  let v76 : BitVec 32 := Scalar.subi v73 v75
  let v77 : BitVec 1 := Scalar.cmpi .ne v71 v76
  let v78 : BitVec 32 := Scalar.remsi v65 c32_i32_29
  let c0_i32_34 : BitVec 32 := 0#32
  let v79 : BitVec 1 := Scalar.cmpi .ne v78 c0_i32_34
  let v80 : BitVec 1 := Scalar.andi v77 v79
  let v66 : BitVec 32 := Scalar.divsi v65 c32_i32_29
  let c1_i32_35 : BitVec 32 := 1#32
  let v81 : BitVec 32 := Scalar.subi v66 c1_i32_35
  let v82 : BitVec 32 := Scalar.select v80 v81 v66
  let v84 : BitVec 32 := Scalar.subi v82 v63
  let c1_i32_37 : BitVec 32 := 1#32
  let v86 : BitVec 32 := Scalar.divsi v84 c1_i32_37
  let v87 : BitVec 32 := Scalar.muli v86 c1_i32_37
  let v88 : BitVec 32 := Scalar.addi v63 v87
  let c1_i32_39 : BitVec 32 := 1#32
  let arg11 : BitVec 32 := Scf.iv v88 c1_i32_39 k0_t6
  let c32_i32_43 : BitVec 32 := 32#32
  let v100 : BitVec 32 := Scalar.muli arg11 c32_i32_43
  let v101 : BitVec 32 := v100
  let v102 : Index := Scalar.indexCast v101
  let c0_44 : Index := 0#32
  ![v102.toNat, 0]

def k0_chk3 (i : grid0.Coords) (v39 : BitVec 32) (v44 : BitVec 32) : Prop :=
  (∀ (k0_h2 : k0_cond2 i = 1#1), (k0_t5_loop i v39 v44).OK) ∧
  (∀ k0_t5 : Fin (k0_t5_loop i v39 v44).trips, ∀ (k0_h2 : k0_cond2 i = 1#1), 32 ∣ (k0_mult4 i v39 v44 k0_t5).toNat) ∧
  (∀ k0_t5 : Fin (k0_t5_loop i v39 v44).trips, ∀ (k0_h2 : k0_cond2 i = 1#1), ∀ a, (k0_off9 i v39 v44 k0_t5) a + S32x128.size a ≤ S3200x128.size a) ∧
  (∀ (k0_h2 : k0_cond2 i = 1#1), (k0_t6_loop i v39 v44).OK) ∧
  (∀ k0_t6 : Fin (k0_t6_loop i v39 v44).trips, ∀ (k0_h2 : k0_cond2 i = 1#1), 32 ∣ (k0_mult5 i v39 v44 k0_t6).toNat) ∧
  (∀ k0_t6 : Fin (k0_t6_loop i v39 v44).trips, ∀ (k0_h2 : k0_cond2 i = 1#1), ∀ a, (k0_off10 i v39 v44 k0_t6) a + S32x128.size a ≤ S3200x128.size a)
theorem k0_t5_ok : ∀ (i : grid0.Coords) (v39 : BitVec 32) (v44 : BitVec 32) (k0_hw3 : k0_chk3 i v39 v44), ∀ (k0_h2 : k0_cond2 i = 1#1), (k0_t5_loop i v39 v44).OK := fun i v39 v44 k0_hw3 k0_h2 => k0_hw3.1 k0_h2
theorem k0_mult4_dvd : ∀ (i : grid0.Coords) (v39 : BitVec 32) (v44 : BitVec 32) (k0_hw3 : k0_chk3 i v39 v44) (k0_t5 : Fin (k0_t5_loop i v39 v44).trips), ∀ (k0_h2 : k0_cond2 i = 1#1), 32 ∣ (k0_mult4 i v39 v44 k0_t5).toNat := fun i v39 v44 k0_hw3 k0_t5 k0_h2 => k0_hw3.2.1 k0_t5 k0_h2
theorem k0_off9_inb : ∀ (i : grid0.Coords) (v39 : BitVec 32) (v44 : BitVec 32) (k0_hw3 : k0_chk3 i v39 v44) (k0_t5 : Fin (k0_t5_loop i v39 v44).trips), ∀ (k0_h2 : k0_cond2 i = 1#1), ∀ a, (k0_off9 i v39 v44 k0_t5) a + S32x128.size a ≤ S3200x128.size a := fun i v39 v44 k0_hw3 k0_t5 k0_h2 => k0_hw3.2.2.1 k0_t5 k0_h2
theorem k0_t6_ok : ∀ (i : grid0.Coords) (v39 : BitVec 32) (v44 : BitVec 32) (k0_hw3 : k0_chk3 i v39 v44), ∀ (k0_h2 : k0_cond2 i = 1#1), (k0_t6_loop i v39 v44).OK := fun i v39 v44 k0_hw3 k0_h2 => k0_hw3.2.2.2.1 k0_h2
theorem k0_mult5_dvd : ∀ (i : grid0.Coords) (v39 : BitVec 32) (v44 : BitVec 32) (k0_hw3 : k0_chk3 i v39 v44) (k0_t6 : Fin (k0_t6_loop i v39 v44).trips), ∀ (k0_h2 : k0_cond2 i = 1#1), 32 ∣ (k0_mult5 i v39 v44 k0_t6).toNat := fun i v39 v44 k0_hw3 k0_t6 k0_h2 => k0_hw3.2.2.2.2.1 k0_t6 k0_h2
theorem k0_off10_inb : ∀ (i : grid0.Coords) (v39 : BitVec 32) (v44 : BitVec 32) (k0_hw3 : k0_chk3 i v39 v44) (k0_t6 : Fin (k0_t6_loop i v39 v44).trips), ∀ (k0_h2 : k0_cond2 i = 1#1), ∀ a, (k0_off10 i v39 v44 k0_t6) a + S32x128.size a ≤ S3200x128.size a := fun i v39 v44 k0_hw3 k0_t6 k0_h2 => k0_hw3.2.2.2.2.2 k0_t6 k0_h2

def k0_mult6 (v25 : BitVec 32) (v28 : BitVec 32) (k0_t4 : Fin (k0_t4_loop v25 v28).trips) : BitVec 32 :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let c1_i32_17 : BitVec 32 := 1#32
  let arg9 : BitVec 32 := Scf.iv v35 c1_i32_17 k0_t4
  let c8_i32 : BitVec 32 := 8#32
  let v91 : BitVec 32 := Scalar.muli arg9 c8_i32
  v91
def k0_off11 (v25 : BitVec 32) (v28 : BitVec 32) (k0_t4 : Fin (k0_t4_loop v25 v28).trips) : Fin 2 → Nat :=
  let c1_i32 : BitVec 32 := 1#32
  let v30 : BitVec 32 := Scalar.addi v28 c1_i32
  let v31 : BitVec 32 := Scalar.subi v30 v25
  let c1_i32_15 : BitVec 32 := 1#32
  let v33 : BitVec 32 := Scalar.divsi v31 c1_i32_15
  let v34 : BitVec 32 := Scalar.muli v33 c1_i32_15
  let v35 : BitVec 32 := Scalar.addi v25 v34
  let c1_i32_17 : BitVec 32 := 1#32
  let arg9 : BitVec 32 := Scf.iv v35 c1_i32_17 k0_t4
  let c8_i32 : BitVec 32 := 8#32
  let v91 : BitVec 32 := Scalar.muli arg9 c8_i32
  let v92 : BitVec 32 := v91
  let v93 : Index := Scalar.indexCast v92
  let c0_40 : Index := 0#32
  ![v93.toNat, 0]

def k0_chk1 (i : grid0.Coords) (v25 : BitVec 32) (v28 : BitVec 32) : Prop :=
  (∀ (k0_h2 : k0_cond2 i = 1#1), (k0_t1_loop v25 v28).OK) ∧
  (∀ k0_t1 : Fin (k0_t1_loop v25 v28).trips, ∀ (k0_h2 : k0_cond2 i = 1#1), ∀ a, (k0_off2 v25 v28 k0_t1) a + S1.size a ≤ S1225.size a) ∧
  (∀ k0_t1 : Fin (k0_t1_loop v25 v28).trips, ∀ (k0_h2 : k0_cond2 i = 1#1), ∀ a, (k0_off3 v25 v28 k0_t1) a + S1.size a ≤ S1225.size a) ∧
  (∀ k0_t1 : Fin (k0_t1_loop v25 v28).trips, ∀ (k0_h2 : k0_cond2 i = 1#1), 8 ∣ (k0_mult3 v25 v28 k0_t1).toNat) ∧
  (∀ k0_t1 : Fin (k0_t1_loop v25 v28).trips, ∀ (k0_h2 : k0_cond2 i = 1#1), ∀ a, (k0_off6 v25 v28 k0_t1) a + S8x128.size a ≤ S8192x128.size a) ∧
  (∀ (k0_h2 : k0_cond2 i = 1#1), (k0_t4_loop v25 v28).OK) ∧
  (∀ k0_t4 : Fin (k0_t4_loop v25 v28).trips, ∀ (k0_h2 : k0_cond2 i = 1#1), ∀ a, (k0_off7 v25 v28 k0_t4) a + S1.size a ≤ S1225.size a) ∧
  (∀ k0_t4 : Fin (k0_t4_loop v25 v28).trips, ∀ (k0_h2 : k0_cond2 i = 1#1), ∀ a, (k0_off8 v25 v28 k0_t4) a + S1.size a ≤ S1225.size a) ∧
  (∀ k0_t4 : Fin (k0_t4_loop v25 v28).trips, ∀ (k0_h2 : k0_cond2 i = 1#1), 8 ∣ (k0_mult6 v25 v28 k0_t4).toNat) ∧
  (∀ k0_t4 : Fin (k0_t4_loop v25 v28).trips, ∀ (k0_h2 : k0_cond2 i = 1#1), ∀ a, (k0_off11 v25 v28 k0_t4) a + S8x128.size a ≤ S8192x128.size a)
theorem k0_t1_ok : ∀ (i : grid0.Coords) (v25 : BitVec 32) (v28 : BitVec 32) (k0_hw1 : k0_chk1 i v25 v28), ∀ (k0_h2 : k0_cond2 i = 1#1), (k0_t1_loop v25 v28).OK := fun i v25 v28 k0_hw1 k0_h2 => k0_hw1.1 k0_h2
theorem k0_off2_inb : ∀ (i : grid0.Coords) (v25 : BitVec 32) (v28 : BitVec 32) (k0_hw1 : k0_chk1 i v25 v28) (k0_t1 : Fin (k0_t1_loop v25 v28).trips), ∀ (k0_h2 : k0_cond2 i = 1#1), ∀ a, (k0_off2 v25 v28 k0_t1) a + S1.size a ≤ S1225.size a := fun i v25 v28 k0_hw1 k0_t1 k0_h2 => k0_hw1.2.1 k0_t1 k0_h2
theorem k0_off3_inb : ∀ (i : grid0.Coords) (v25 : BitVec 32) (v28 : BitVec 32) (k0_hw1 : k0_chk1 i v25 v28) (k0_t1 : Fin (k0_t1_loop v25 v28).trips), ∀ (k0_h2 : k0_cond2 i = 1#1), ∀ a, (k0_off3 v25 v28 k0_t1) a + S1.size a ≤ S1225.size a := fun i v25 v28 k0_hw1 k0_t1 k0_h2 => k0_hw1.2.2.1 k0_t1 k0_h2
theorem k0_mult3_dvd : ∀ (i : grid0.Coords) (v25 : BitVec 32) (v28 : BitVec 32) (k0_hw1 : k0_chk1 i v25 v28) (k0_t1 : Fin (k0_t1_loop v25 v28).trips), ∀ (k0_h2 : k0_cond2 i = 1#1), 8 ∣ (k0_mult3 v25 v28 k0_t1).toNat := fun i v25 v28 k0_hw1 k0_t1 k0_h2 => k0_hw1.2.2.2.1 k0_t1 k0_h2
theorem k0_off6_inb : ∀ (i : grid0.Coords) (v25 : BitVec 32) (v28 : BitVec 32) (k0_hw1 : k0_chk1 i v25 v28) (k0_t1 : Fin (k0_t1_loop v25 v28).trips), ∀ (k0_h2 : k0_cond2 i = 1#1), ∀ a, (k0_off6 v25 v28 k0_t1) a + S8x128.size a ≤ S8192x128.size a := fun i v25 v28 k0_hw1 k0_t1 k0_h2 => k0_hw1.2.2.2.2.1 k0_t1 k0_h2
theorem k0_t4_ok : ∀ (i : grid0.Coords) (v25 : BitVec 32) (v28 : BitVec 32) (k0_hw1 : k0_chk1 i v25 v28), ∀ (k0_h2 : k0_cond2 i = 1#1), (k0_t4_loop v25 v28).OK := fun i v25 v28 k0_hw1 k0_h2 => k0_hw1.2.2.2.2.2.1 k0_h2
theorem k0_off7_inb : ∀ (i : grid0.Coords) (v25 : BitVec 32) (v28 : BitVec 32) (k0_hw1 : k0_chk1 i v25 v28) (k0_t4 : Fin (k0_t4_loop v25 v28).trips), ∀ (k0_h2 : k0_cond2 i = 1#1), ∀ a, (k0_off7 v25 v28 k0_t4) a + S1.size a ≤ S1225.size a := fun i v25 v28 k0_hw1 k0_t4 k0_h2 => k0_hw1.2.2.2.2.2.2.1 k0_t4 k0_h2
theorem k0_off8_inb : ∀ (i : grid0.Coords) (v25 : BitVec 32) (v28 : BitVec 32) (k0_hw1 : k0_chk1 i v25 v28) (k0_t4 : Fin (k0_t4_loop v25 v28).trips), ∀ (k0_h2 : k0_cond2 i = 1#1), ∀ a, (k0_off8 v25 v28 k0_t4) a + S1.size a ≤ S1225.size a := fun i v25 v28 k0_hw1 k0_t4 k0_h2 => k0_hw1.2.2.2.2.2.2.2.1 k0_t4 k0_h2
theorem k0_mult6_dvd : ∀ (i : grid0.Coords) (v25 : BitVec 32) (v28 : BitVec 32) (k0_hw1 : k0_chk1 i v25 v28) (k0_t4 : Fin (k0_t4_loop v25 v28).trips), ∀ (k0_h2 : k0_cond2 i = 1#1), 8 ∣ (k0_mult6 v25 v28 k0_t4).toNat := fun i v25 v28 k0_hw1 k0_t4 k0_h2 => k0_hw1.2.2.2.2.2.2.2.2.1 k0_t4 k0_h2
theorem k0_off11_inb : ∀ (i : grid0.Coords) (v25 : BitVec 32) (v28 : BitVec 32) (k0_hw1 : k0_chk1 i v25 v28) (k0_t4 : Fin (k0_t4_loop v25 v28).trips), ∀ (k0_h2 : k0_cond2 i = 1#1), ∀ a, (k0_off11 v25 v28 k0_t4) a + S8x128.size a ≤ S8192x128.size a := fun i v25 v28 k0_hw1 k0_t4 k0_h2 => k0_hw1.2.2.2.2.2.2.2.2.2 k0_t4 k0_h2

def k0_cond3 (i : grid0.Coords) : BitVec 1 :=
  let arg0 : BitVec 32 := BitVec.ofNat 32 (i 0).val
  let c100_i32_2 : BitVec 32 := 100#32
  let v6 : BitVec 1 := Scalar.cmpi .sge arg0 c100_i32_2
  let v7 : BitVec 32 := Scalar.extui v6
  let c0_i32_3 : BitVec 32 := 0#32
  let v8 : BitVec 1 := Scalar.cmpi .ne v7 c0_i32_3
  v8

def k0_off12 (i : grid0.Coords) : Fin 2 → Nat :=
  let arg0 : BitVec 32 := BitVec.ofNat 32 (i 0).val
  let c100_i32_4 : BitVec 32 := 100#32
  let v9 : BitVec 32 := Scalar.subi arg0 c100_i32_4
  let c128_i32 : BitVec 32 := 128#32
  let v10 : BitVec 32 := Scalar.muli v9 c128_i32
  let c8_i32 : BitVec 32 := 8#32
  let v11 : BitVec 32 := Scalar.muli v10 c8_i32
  let v12 : Index := Scalar.indexCast v11
  let c0 : Index := 0#32
  ![v12.toNat, 0]
def cc0_transform_0 (i : grid0.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c99_i32 : BitVec 32 := 99#32
  let v0 : BitVec 32 := Scalar.minsi arg0 c99_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c100_i32 : BitVec 32 := 100#32
  let v0 : BitVec 32 := Scalar.subi arg0 c100_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S320000x131 : Shape := ⟨2, ![320000, 131]⟩
abbrev S1x128 : Shape := ⟨2, ![1, 128]⟩
abbrev S_ : Shape := ⟨0, ![]⟩
abbrev S1024 : Shape := ⟨1, ![1024]⟩
abbrev S1x320000 : Shape := ⟨2, ![1, 320000]⟩
abbrev S1024x1 : Shape := ⟨2, ![1024, 1]⟩
abbrev S1024x320000 : Shape := ⟨2, ![1024, 320000]⟩
abbrev S1024x320000x1 : Shape := ⟨3, ![1024, 320000, 1]⟩
abbrev S1x320000x128 : Shape := ⟨3, ![1, 320000, 128]⟩
abbrev S1024x320000x128 : Shape := ⟨3, ![1024, 320000, 128]⟩
abbrev S1024x128 : Shape := ⟨2, ![1024, 128]⟩
abbrev S320000x1 : Shape := ⟨2, ![320000, 1]⟩
abbrev S1024x3 : Shape := ⟨2, ![1024, 3]⟩

abbrev nBuf : Space → Nat
  | .hbm => 58
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S320000x131, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S1024, .i32⟩
  | .hbm, ⟨14, _⟩ => ⟨S1x320000, .i32⟩
  | .hbm, ⟨15, _⟩ => ⟨S1024x1, .i32⟩
  | .hbm, ⟨16, _⟩ => ⟨S1024x320000, .i32⟩
  | .hbm, ⟨17, _⟩ => ⟨S1024x320000, .i32⟩
  | .hbm, ⟨18, _⟩ => ⟨S1024x320000, .i1⟩
  | .hbm, ⟨19, _⟩ => ⟨S1024x320000x1, .i1⟩
  | .hbm, ⟨20, _⟩ => ⟨S1x320000x128, .f32⟩
  | .hbm, ⟨21, _⟩ => ⟨S_, .f32⟩
  | .hbm, ⟨22, _⟩ => ⟨S_, .f32⟩
  | .hbm, ⟨23, _⟩ => ⟨S1024x320000x128, .i1⟩
  | .hbm, ⟨24, _⟩ => ⟨S1024x320000x128, .f32⟩
  | .hbm, ⟨25, _⟩ => ⟨S1024x320000x128, .f32⟩
  | .hbm, ⟨26, _⟩ => ⟨S1024x320000x128, .f32⟩
  | .hbm, ⟨27, _⟩ => ⟨S_, .f32⟩
  | .hbm, ⟨28, _⟩ => ⟨S1024x128, .f32⟩
  | .hbm, ⟨29, _⟩ => ⟨S_, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S_, .i32⟩
  | .hbm, ⟨36, _⟩ => ⟨S320000, .i32⟩
  | .hbm, ⟨37, _⟩ => ⟨S320000, .i1⟩
  | .hbm, ⟨38, _⟩ => ⟨S_, .i32⟩
  | .hbm, ⟨39, _⟩ => ⟨S320000, .i32⟩
  | .hbm, ⟨40, _⟩ => ⟨S320000, .i32⟩
  | .hbm, ⟨41, _⟩ => ⟨S320000, .i32⟩
  | .hbm, ⟨42, _⟩ => ⟨S320000x1, .i32⟩
  | .hbm, ⟨43, _⟩ => ⟨S_, .i32⟩
  | .hbm, ⟨44, _⟩ => ⟨S320000, .i32⟩
  | .hbm, ⟨45, _⟩ => ⟨S1024, .i32⟩
  | .hbm, ⟨46, _⟩ => ⟨S_, .i32⟩
  | .hbm, ⟨47, _⟩ => ⟨S1024, .i32⟩
  | .hbm, ⟨48, _⟩ => ⟨S1024, .i1⟩
  | .hbm, ⟨49, _⟩ => ⟨S1024x1, .i1⟩
  | .hbm, ⟨50, _⟩ => ⟨S_, .f32⟩
  | .hbm, ⟨51, _⟩ => ⟨S_, .f32⟩
  | .hbm, ⟨52, _⟩ => ⟨S1024x128, .i1⟩
  | .hbm, ⟨53, _⟩ => ⟨S1024x128, .f32⟩
  | .hbm, ⟨54, _⟩ => ⟨S1024x128, .f32⟩
  | .hbm, ⟨55, _⟩ => ⟨S_, .f32⟩
  | .hbm, ⟨56, _⟩ => ⟨S1024x3, .f32⟩
  | .hbm, ⟨57, _⟩ => ⟨S1024, .i32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_c_2 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Proof.Words.lean ====
/-
  The kernel's scalar words: how often its loops run and where they read and write, from the words
  the prefetched table holds. The loops written for the remainder of a division by one never run.
-/
module

public import proofs.«01_k».proof.Proof.Gen.KernelIdeal
public import Idealize.ShloMosaic.Lib.Affine

@[expose] public section

set_option maxRecDepth 16384

namespace Cert.KernelIdeal.Hand

open Idealize.ShloMosaic Idealize.ShloMosaic.Affine

/-- The quotient by 32 rounded down, as the kernel computes it, of a word that is not negative. -/
theorem floor32 {v : BitVec 32} {e : Int} (h : IsInt v e) (h0 : 0 ≤ e) :
    IsInt (Scalar.select
      (Scalar.andi (Scalar.cmpi .ne
        (Scalar.subi (Scalar.extui (Scalar.cmpi .sgt v 0#32)) (Scalar.extui (Scalar.cmpi .slt v 0#32)))
        (Scalar.subi (Scalar.extui (Scalar.cmpi .sgt 32#32 0#32)) (Scalar.extui (Scalar.cmpi .slt 32#32 0#32))))
        (Scalar.cmpi .ne (Scalar.remsi v 32#32) 0#32))
      (Scalar.subi (Scalar.divsi v 32#32) 1#32) (Scalar.divsi v 32#32)) (e / 32) := by
  have z : IsInt 0#32 0 := Affine.ofNat 0 ⟨rfl, by decide⟩
  have t : IsInt 32#32 32 := Affine.ofNat 32 ⟨rfl, by decide⟩
  have o : IsInt 1#32 1 := Affine.ofNat 1 ⟨rfl, by decide⟩
  have hd : IsInt (Scalar.divsi v 32#32) (e / 32) := Affine.divsi h t ⟨rfl, h0, by decide⟩
  have hr : IsInt (Scalar.remsi v 32#32) (e % 32) := Affine.remsi h t ⟨rfl, h0, by decide⟩
  have hlt : e < 2 ^ 31 := by
    have := Affine.word_range v
    have h' := Affine.unique h (Affine.word v)
    omega
  have hs : IsInt (Scalar.subi (Scalar.divsi v 32#32) 1#32) (e / 32 - 1) :=
    Affine.subi hd o ⟨rfl, by omega, by omega⟩
  refine Affine.select_fails ?_ hs hd rfl
  have s32 : IsInt (Scalar.subi (Scalar.extui (Scalar.cmpi .sgt 32#32 0#32)) (Scalar.extui (Scalar.cmpi .slt 32#32 0#32))) 1 := by
    have : Scalar.subi (Scalar.extui (Scalar.cmpi .sgt 32#32 0#32)) (Scalar.extui (Scalar.cmpi .slt 32#32 0#32)) = 1#32 := by decide
    rw [this]; exact o
  have hneg : IsInt (Scalar.extui (Scalar.cmpi .slt v 0#32)) 0 := Affine.extui_fails (Affine.slt_fails h z (by omega)) rfl
  rcases Int.lt_or_eq_of_le h0 with hp | hz
  · refine andi_fails_left (ne_fails ?_ s32 rfl) trivial
    exact Affine.subi (Affine.extui_holds (Affine.sgt_holds h z hp) rfl) hneg ⟨rfl, by decide, by decide⟩
  · exact andi_fails_right trivial (ne_fails hr z (by omega))

/-- What the words naming a segment's rows satisfy at block `n`: the rows start no later than the
    block's last row, end no earlier than its first, and lie in order within the input. -/
structure RowsOK (n : ℕ) (s e : BitVec 32) : Prop where
  hn : n < 100
  hs : s.toNat ≤ 3200 * n + 3199
  he : 3200 * n + 1 ≤ e.toNat
  he' : e.toNat ≤ 320000
  hse : s.toNat ≤ e.toNat

/-- The first row of a segment that starts at word `s`, counted from block `n`'s first. -/
def lo (n : ℕ) (s : BitVec 32) : ℕ := s.toNat - 3200 * n
/-- The row after a segment's last, of a segment that ends at word `e`, counted from block `n`'s first. -/
def hi (n : ℕ) (e : BitVec 32) : ℕ := min (e.toNat - 3200 * n) 3200

variable {i : grid0.Coords} {s e : BitVec 32}

theorem RowsOK.lo_le (h : RowsOK (i 0).val s e) : lo (i 0).val s ≤ 3199 := by
  have := h.hs; unfold lo; omega
theorem RowsOK.hi_le (h : RowsOK (i 0).val s e) : hi (i 0).val e ≤ 3200 := by
  unfold hi; omega
theorem RowsOK.lo_le_hi (h : RowsOK (i 0).val s e) : lo (i 0).val s ≤ hi (i 0).val e := by
  have h1 := h.hs; have h2 := h.he; have h3 := h.hse; unfold lo hi; omega

/-- A word below half the range, read signed. -/
theorem isInt_toNat (v : BitVec 32) (h : v.toNat < 2 ^ 31) : IsInt v v.toNat := by
  have := Affine.ofNat (e := (v.toNat : Int)) v.toNat ⟨rfl, h⟩
  rwa [BitVec.ofNat_toNat, BitVec.setWidth_eq] at this

/-- The clamped first row, as the kernel computes it. -/
theorem RowsOK.isLo (h : RowsOK (i 0).val s e) :
    IsInt (Scalar.maxsi (Scalar.subi s (Scalar.muli (BitVec.ofNat 32 (i 0).val) 3200#32)) 0#32) (lo (i 0).val s) := by
  have hn := h.hn; have h1 := h.hs; have h2 := h.he'; have h3 := h.hse
  have a : IsInt (Scalar.muli (BitVec.ofNat 32 (i 0).val) 3200#32) (3200 * ((i 0).val : Int)) :=
    Affine.muli (Affine.ofNat (e := ((i 0).val : Int)) _ ⟨rfl, by omega⟩) (Affine.ofNat (e := 3200) 3200 ⟨rfl, by decide⟩)
      ⟨by omega, by omega, by omega⟩
  have b : IsInt (Scalar.subi s (Scalar.muli (BitVec.ofNat 32 (i 0).val) 3200#32)) ((s.toNat : Int) - 3200 * ((i 0).val : Int)) :=
    Affine.subi (isInt_toNat s (by omega)) a ⟨rfl, by omega, by omega⟩
  exact Affine.maxsi b (Affine.ofNat (e := 0) 0 ⟨rfl, by decide⟩) (by unfold lo; omega)

/-- The clamped last row, as the kernel computes it. -/
theorem RowsOK.isHi (h : RowsOK (i 0).val s e) :
    IsInt (Scalar.minsi (Scalar.subi e (Scalar.muli (BitVec.ofNat 32 (i 0).val) 3200#32)) 3200#32) (hi (i 0).val e) := by
  have hn := h.hn; have h1 := h.he; have h2 := h.he'
  have a : IsInt (Scalar.muli (BitVec.ofNat 32 (i 0).val) 3200#32) (3200 * ((i 0).val : Int)) :=
    Affine.muli (Affine.ofNat (e := ((i 0).val : Int)) _ ⟨rfl, by omega⟩) (Affine.ofNat (e := 3200) 3200 ⟨rfl, by decide⟩)
      ⟨by omega, by omega, by omega⟩
  have b : IsInt (Scalar.subi e (Scalar.muli (BitVec.ofNat 32 (i 0).val) 3200#32)) ((e.toNat : Int) - 3200 * ((i 0).val : Int)) :=
    Affine.subi (isInt_toNat e (by omega)) a ⟨rfl, by omega, by omega⟩
  exact Affine.minsi b (Affine.ofNat (e := 3200) 3200 ⟨rfl, by decide⟩) (by unfold hi; omega)

/-- The chunk loop starts at the chunk of the first row. -/
theorem RowsOK.t2_lb (h : RowsOK (i 0).val s e) : IsInt (k0_t2_loop i s e).lb ((lo (i 0).val s : Int) / 32) :=
  floor32 h.isLo (by omega)

/-- The chunk loop ends after the chunk of the last row. -/
theorem RowsOK.t2_ub (h : RowsOK (i 0).val s e) : IsInt (k0_t2_loop i s e).ub (((hi (i 0).val e : Int) + 31) / 32) := by
  have h1 := h.lo_le; have h2 := h.hi_le; have h3 := h.lo_le_hi
  have a : IsInt _ ((hi (i 0).val e : Int) + 31) :=
    Affine.subi (Affine.addi h.isHi (Affine.ofNat (e := 32) 32 ⟨rfl, by decide⟩) ⟨rfl, by omega, by omega⟩)
      (Affine.ofNat (e := 1) 1 ⟨rfl, by decide⟩) ⟨by omega, by omega, by omega⟩
  have b := floor32 a (by omega)
  have c := floor32 h.isLo (by omega)
  have o : IsInt 1#32 1 := Affine.ofNat 1 ⟨rfl, by decide⟩
  have d : IsInt _ (((hi (i 0).val e : Int) + 31) / 32 - (lo (i 0).val s : Int) / 32) := Affine.subi b c ⟨rfl, by omega, by omega⟩
  have f := Affine.divsi_one (e := ((hi (i 0).val e : Int) + 31) / 32 - (lo (i 0).val s : Int) / 32) d o ⟨rfl, rfl⟩
  have g := Affine.muli (e := ((hi (i 0).val e : Int) + 31) / 32 - (lo (i 0).val s : Int) / 32) f o ⟨by omega, by omega, by omega⟩
  exact Affine.addi c g ⟨by omega, by omega, by omega⟩

/-- The chunk loop's step. -/
theorem isOne : IsInt 1#32 1 := Affine.ofNat 1 ⟨rfl, by decide⟩

/-- The number of chunks of 32 rows from row `a` to row `b`. -/
def chunks (a b : ℕ) : ℕ := (b + 31) / 32 - a / 32

theorem RowsOK.t2_trips (h : RowsOK (i 0).val s e) :
    (k0_t2_loop i s e).trips = chunks (lo (i 0).val s) (hi (i 0).val e) := by
  have h1 := h.lo_le; have h2 := h.hi_le; have h3 := h.lo_le_hi
  exact trips_eq h.t2_lb h.t2_ub isOne _ (by unfold chunks; omega)

theorem RowsOK.t2_OK (h : RowsOK (i 0).val s e) : (k0_t2_loop i s e).OK := by
  have h1 := h.lo_le; have h2 := h.hi_le; have h3 := h.lo_le_hi
  exact Affine.ok h.t2_lb h.t2_ub isOne (by omega)

/-- The chunk loop's counter at trip `k`. -/
theorem RowsOK.t2_iv (h : RowsOK (i 0).val s e) (k : Fin (k0_t2_loop i s e).trips) :
    IsInt (Scf.iv (k0_t2_loop i s e).lb 1#32 k) ((lo (i 0).val s : Int) / 32 + k.val) := by
  have h1 := h.lo_le; have h2 := h.hi_le; have h3 := h.lo_le_hi
  have hk : k.val < chunks (lo (i 0).val s) (hi (i 0).val e) := by rw [← h.t2_trips]; exact k.isLt
  unfold chunks at hk
  exact Affine.iv h.t2_lb isOne _ ⟨by omega, by omega, by omega⟩

/-- The row the chunk starts at, as the kernel computes it. -/
theorem RowsOK.row (h : RowsOK (i 0).val s e) (k : Fin (k0_t2_loop i s e).trips) :
    IsInt (k0_mult1 i s e k) (32 * ((lo (i 0).val s : Int) / 32 + k.val)) := by
  have h1 := h.lo_le; have h2 := h.hi_le; have h3 := h.lo_le_hi
  have hk : k.val < chunks (lo (i 0).val s) (hi (i 0).val e) := by rw [← h.t2_trips]; exact k.isLt
  unfold chunks at hk
  exact Affine.muli (h.t2_iv k) (Affine.ofNat (e := 32) 32 ⟨rfl, by decide⟩) ⟨by omega, by omega, by omega⟩

/-- The chunk's rows lie within the block. -/
theorem RowsOK.row_le (h : RowsOK (i 0).val s e) (k : Fin (k0_t2_loop i s e).trips) :
    32 * (lo (i 0).val s / 32 + k.val) + 32 ≤ 3200 := by
  have h1 := h.lo_le; have h2 := h.hi_le; have h3 := h.lo_le_hi
  have hk : k.val < chunks (lo (i 0).val s) (hi (i 0).val e) := by rw [← h.t2_trips]; exact k.isLt
  unfold chunks at hk
  omega

theorem RowsOK.off4 (h : RowsOK (i 0).val s e) (k : Fin (k0_t2_loop i s e).trips) :
    k0_off4 i s e k = ![32 * (lo (i 0).val s / 32 + k.val), 0] := by
  have a : (k0_mult1 i s e k).toNat = 32 * (lo (i 0).val s / 32 + k.val) :=
    Affine.nat_eq (h.row k) _ (by push_cast; omega)
  exact (show k0_off4 i s e k = ![(k0_mult1 i s e k).toNat, 0] from rfl).trans (by rw [a])

/-- A word divided by one is itself. -/
theorem divsi_one_word (x : BitVec 32) : Scalar.divsi x 1#32 = x := by
  have a := Affine.divsi_one (e := x.toInt) (Affine.word x) isOne ⟨rfl, rfl⟩
  have b := Affine.unique a (Affine.word _)
  exact (BitVec.eq_of_toInt_eq b).symm

/-- A loop over the remainder of a division by one has no trips, -/
theorem trips_remainder (x y : BitVec 32) :
    Scf.trips (Scalar.addi x (Scalar.muli (Scalar.divsi y 1#32) 1#32)) (Scalar.addi x y) 1#32 = 0 := by
  rw [divsi_one_word, show Scalar.muli y 1#32 = y from BitVec.mul_one y]
  have h1 : (1#32).toInt = 1 := by decide
  simp only [Scf.trips, h1]
  omega

/-- and a meaning. -/
theorem ok_remainder (x y : BitVec 32) :
    Scf.OK (Scalar.addi x (Scalar.muli (Scalar.divsi y 1#32) 1#32)) (Scalar.addi x y) 1#32 := by
  refine ⟨by decide, ?_⟩
  rw [trips_remainder]
  have := BitVec.toInt_lt (x := Scalar.addi x (Scalar.muli (Scalar.divsi y 1#32) 1#32))
  omega

theorem t3_trips (i : grid0.Coords) (s e : BitVec 32) : (k0_t3_loop i s e).trips = 0 := trips_remainder _ _
theorem t3_elim {i : grid0.Coords} {s e : BitVec 32} (k : Fin (k0_t3_loop i s e).trips) : False :=
  absurd (k.isLt.trans_eq (t3_trips i s e)) (Nat.not_lt_zero _)
theorem t4_trips (a b : BitVec 32) : (k0_t4_loop a b).trips = 0 := trips_remainder _ _
theorem t4_elim {a b : BitVec 32} (k : Fin (k0_t4_loop a b).trips) : False :=
  absurd (k.isLt.trans_eq (t4_trips a b)) (Nat.not_lt_zero _)

/-- What the body checks of a segment's two words. -/
theorem RowsOK.chk (h : RowsOK (i 0).val s e) : k0_chk2 i s e := by
  refine ⟨fun _ => h.t2_OK, fun k _ => ?_, fun k _ => ?_, fun _ => ok_remainder _ _,
    fun k => (t3_elim k).elim, fun k => (t3_elim k).elim⟩
  · exact Affine.dvd_of (h.row k) 32 ⟨⟨_, rfl⟩, by omega⟩
  · rw [h.off4 k]
    have := h.row_le k
    intro a
    fin_cases a
    · exact this
    · exact Nat.le_refl 128

/-- What the words naming a block's segments satisfy: they are in order, below 1024. -/
structure SegsOK (a b : BitVec 32) : Prop where
  hab : a.toNat ≤ b.toNat
  hb : b.toNat ≤ 1023

variable {a b : BitVec 32}

theorem SegsOK.t1_ub (h : SegsOK a b) : IsInt (k0_t1_loop a b).ub ((b.toNat : Int) + 1) := by
  have h1 := h.hab; have h2 := h.hb
  have ha := isInt_toNat a (by omega)
  have hc : IsInt _ ((b.toNat : Int) + 1) := Affine.addi (isInt_toNat b (by omega)) isOne ⟨rfl, by omega, by omega⟩
  have hd : IsInt _ ((b.toNat : Int) + 1 - a.toNat) := Affine.subi hc ha ⟨rfl, by omega, by omega⟩
  have he := Affine.divsi_one (e := (b.toNat : Int) + 1 - a.toNat) hd isOne ⟨rfl, rfl⟩
  have hf := Affine.muli (e := (b.toNat : Int) + 1 - a.toNat) he isOne ⟨by omega, by omega, by omega⟩
  exact Affine.addi ha hf ⟨by omega, by omega, by omega⟩

theorem SegsOK.t1_trips (h : SegsOK a b) : (k0_t1_loop a b).trips = b.toNat + 1 - a.toNat := by
  have h1 := h.hab; have h2 := h.hb
  exact trips_eq (isInt_toNat a (by omega)) h.t1_ub isOne _ (by omega)

theorem SegsOK.t1_OK (h : SegsOK a b) : (k0_t1_loop a b).OK := by
  have h1 := h.hab; have h2 := h.hb
  exact Affine.ok (isInt_toNat a (by omega)) h.t1_ub isOne (by omega)

/-- The segment of trip `k` is at most the block's last. -/
theorem SegsOK.seg_le (h : SegsOK a b) (k : Fin (k0_t1_loop a b).trips) : a.toNat + k.val ≤ b.toNat := by
  have := k.isLt.trans_eq h.t1_trips; omega

theorem SegsOK.t1_iv (h : SegsOK a b) (k : Fin (k0_t1_loop a b).trips) :
    IsInt (Scf.iv a 1#32 k) ((a.toNat : Int) + k.val) := by
  have h1 := h.seg_le k; have h2 := h.hb
  exact Affine.iv (isInt_toNat a (by omega)) isOne _ ⟨by omega, by omega, by omega⟩

theorem SegsOK.off2 (h : SegsOK a b) (k : Fin (k0_t1_loop a b).trips) : k0_off2 a b k = ![a.toNat + k.val] := by
  have h1 := h.seg_le k; have h2 := h.hb
  exact Affine.vec_cons (h.t1_iv k) (by push_cast; rfl) rfl

theorem SegsOK.off3 (h : SegsOK a b) (k : Fin (k0_t1_loop a b).trips) : k0_off3 a b k = ![a.toNat + k.val + 1] := by
  have h1 := h.seg_le k; have h2 := h.hb
  exact Affine.vec_cons (e := (a.toNat : Int) + k.val + 1)
    (Affine.addi (h.t1_iv k) isOne ⟨rfl, by omega, by omega⟩) (by push_cast; rfl) rfl

theorem SegsOK.is_off6 (h : SegsOK a b) (k : Fin (k0_t1_loop a b).trips) :
    IsInt (k0_mult3 a b k) (8 * ((a.toNat : Int) + k.val)) := by
  have h1 := h.seg_le k; have h2 := h.hb
  exact Affine.muli (h.t1_iv k) (Affine.ofNat (e := 8) 8 ⟨rfl, by decide⟩) ⟨by omega, by omega, by omega⟩

theorem SegsOK.off6 (h : SegsOK a b) (k : Fin (k0_t1_loop a b).trips) : k0_off6 a b k = ![8 * (a.toNat + k.val), 0] := by
  exact Affine.vec_cons (h.is_off6 k) (by push_cast; omega) rfl

/-- What the body checks of a block's two words. -/
theorem SegsOK.chk (h : SegsOK a b) (i : grid0.Coords) : k0_chk1 i a b := by
  have h2 := h.hb
  refine ⟨fun _ => h.t1_OK, fun k _ => ?_, fun k _ => ?_, fun k _ => ?_, fun k _ => ?_, fun _ => ok_remainder _ _,
    fun k => (t4_elim k).elim, fun k => (t4_elim k).elim, fun k => (t4_elim k).elim, fun k => (t4_elim k).elim⟩
  · have h1 := h.seg_le k
    rw [h.off2 k]; intro x; fin_cases x
    show a.toNat + k.val + 1 ≤ 1225; omega
  · have h1 := h.seg_le k
    rw [h.off3 k]; intro x; fin_cases x
    show a.toNat + k.val + 1 + 1 ≤ 1225; omega
  · exact Affine.dvd_of (h.is_off6 k) 8 ⟨⟨_, rfl⟩, by omega⟩
  · have h1 := h.seg_le k
    rw [h.off6 k]; intro x; fin_cases x
    · show 8 * (a.toNat + k.val) + 8 ≤ 8192; omega
    · exact Nat.le_refl 128

/-- The entry a block's first (or last) segment is read from. -/
theorem off1_eq (i : grid0.Coords) (c : ℕ) (hc : c < 2 ^ 30) :
    k0_off1 i (BitVec.ofNat 32 c) = ![c + (i 0).val] := by
  have h : (i 0).val < 108 := (i 0).isLt
  exact Affine.vec_cons (e := (c : Int) + (i 0).val)
    (Affine.addi (Affine.ofNat (e := (c : Int)) c ⟨rfl, by omega⟩)
      (Affine.ofNat (e := ((i 0).val : Int)) _ ⟨rfl, by omega⟩) ⟨rfl, by omega, by omega⟩) (by push_cast; rfl) rfl

/-- The rows an output step reads start at eight times its block's first segment. -/
theorem off12_eq (i : grid0.Coords) (hi : 100 ≤ (i 0).val) : k0_off12 i = ![1024 * ((i 0).val - 100), 0] := by
  have h : (i 0).val < 108 := (i 0).isLt
  have a : IsInt _ ((i 0).val - 100 : Int) :=
    Affine.subi (Affine.ofNat (e := ((i 0).val : Int)) _ ⟨rfl, by omega⟩) (Affine.ofNat (e := 100) 100 ⟨rfl, by decide⟩)
      ⟨rfl, by omega, by omega⟩
  have b := Affine.muli (e := ((i 0).val - 100 : Int) * 128) a (Affine.ofNat (e := 128) 128 ⟨rfl, by decide⟩) ⟨rfl, by omega, by omega⟩
  have c := Affine.muli (e := ((i 0).val - 100 : Int) * 128 * 8) b (Affine.ofNat (e := 8) 8 ⟨rfl, by decide⟩) ⟨rfl, by omega, by omega⟩
  exact Affine.vec_cons c (by omega) rfl

/-- The guards of the body's steps. -/
theorem cond2_iff (i : grid0.Coords) : k0_cond2 i = 1#1 ↔ (i 0).val < 100 := by
  have h : (i 0).val < 108 := (i 0).isLt
  unfold k0_cond2
  rw [Scalar.guard_iff]
  by_cases hn : (i 0).val < 100
  · exact iff_of_true (Affine.slt_holds (Affine.ofNat (e := ((i 0).val : Int)) _ ⟨rfl, by omega⟩) (Affine.ofNat (e := 100) 100 ⟨rfl, by decide⟩) (by omega)) hn
  · exact iff_of_false (Affine.slt_fails (Affine.ofNat (e := ((i 0).val : Int)) _ ⟨rfl, by omega⟩) (Affine.ofNat (e := 100) 100 ⟨rfl, by decide⟩) (by omega)) hn
theorem cond3_iff (i : grid0.Coords) : k0_cond3 i = 1#1 ↔ 100 ≤ (i 0).val := by
  have h : (i 0).val < 108 := (i 0).isLt
  unfold k0_cond3
  rw [Scalar.guard_iff]
  by_cases hn : 100 ≤ (i 0).val
  · exact iff_of_true (Affine.sge_holds (Affine.ofNat (e := ((i 0).val : Int)) _ ⟨rfl, by omega⟩) (Affine.ofNat (e := 100) 100 ⟨rfl, by decide⟩) (by omega)) hn
  · exact iff_of_false (Affine.sge_fails (Affine.ofNat (e := ((i 0).val : Int)) _ ⟨rfl, by omega⟩) (Affine.ofNat (e := 100) 100 ⟨rfl, by decide⟩) (by omega)) hn

end Cert.KernelIdeal.Hand
-- ==== Proof.Body.lean ====
/-
  What the kernel's body does at a grid point, as functions of what it reads, and the body's runs:
  at a block of rows the products go to the scratch block and every segment that meets the block
  takes its maximum into the accumulators; at an output step the accumulators of 128 segments are
  reduced to one row each.
-/
module

public import proofs.«01_k».proof.Proof.Words
public import proofs.«01_k».proof.Proof.Gen.KernelIdeal.Skeleton
public import proofs.«01_k».proof.Proof.Gen.KernelIdeal.Launch
public import Idealize.ShloMosaic.Lib.Pipeline.Sound
public import Idealize.ShloMosaic.Lib.Tactic

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- No loop of the program needs a variant. -/
abbrev 𝒱₀ : Variants := Variants.none

/-! ### The table's words -/

/-- The one index of a one-word read. -/
abbrev first : S1.Idx := Shape.Idx.first (s := S1) (numel1_S1.symm ▸ Nat.one_pos)

/-- The table's word `n`. -/
def tw (tab : IVec S1225 32) (n : ℕ) : BitVec 32 := if h : n < 1225 then tab (fun a => ⟨n, by fin_cases a; exact h⟩) else 0#32

/-- A one-word read at offset `n` reads the table's word `n`. -/
theorem tab_read (tab : IVec S1225 32) (off : Fin 1 → ℕ) (h : ∀ a, off a + S1.size a ≤ S1225.size a) (n : ℕ) (ho : off = ![n]) :
    tab ((Rect.unit (s := S1225) off S1.size h).emb first) = tw tab n := by
  subst ho
  have hn : n < 1225 := h 0
  unfold tw
  rw [dif_pos hn]
  congr 1
  funext a; apply Fin.ext
  rw [Rect.emb_apply]
  fin_cases a
  show n + 1 * 0 = n
  omega

/-- What the prefetched table holds: each block's first and last segments in order, and, of each segment
    between them, rows that meet the block. -/
structure GoodTab (tab : IVec S1225 32) : Prop where
  segs : ∀ n < 100, SegsOK (tw tab (1025 + n)) (tw tab (1125 + n))
  rows : ∀ n < 100, ∀ s, (tw tab (1025 + n)).toNat ≤ s → s ≤ (tw tab (1125 + n)).toNat → RowsOK n (tw tab s) (tw tab (s + 1))

/-! ### What the loops compute -/

/-- The clamped first and last rows, as the kernel's words. -/
abbrev loW (i : grid0.Coords) (s : BitVec 32) : BitVec 32 := Scalar.maxsi (Scalar.subi s (Scalar.muli (BitVec.ofNat 32 (i 0).val) 3200#32)) 0#32
abbrev hiW (i : grid0.Coords) (e : BitVec 32) : BitVec 32 := Scalar.minsi (Scalar.subi e (Scalar.muli (BitVec.ofNat 32 (i 0).val) 3200#32)) 3200#32

/-- The rectangle of chunk `k`'s rows in the scratch block. -/
abbrev rC (i : grid0.Coords) (s e : BitVec 32) (hw : k0_chk2 i s e) (h2 : k0_cond2 i = 1#1) (k : Fin (k0_t2_loop i s e).trips) : Rect S3200x128 :=
  Rect.unit (s := S3200x128) (k0_off4 i s e k) S32x128.size (k0_off4_inb i s e hw k h2)

/-- The running maximum after `k` chunks of a segment's rows. -/
def chunkSt (i : grid0.Coords) (s e : BitVec 32) (hw : k0_chk2 i s e) (h2 : k0_cond2 i = 1#1) (hb : Vec F S3200x128 .f32) : ℕ → FVec F S8x128 .f32
  | 0 => k0_pay3
  | k + 1 => if h : k < (k0_t2_loop i s e).trips then
      k0_pay4 i s (loW i s) e (hiW i e) (k0_t2_loop i s e).lb ⟨k, h⟩ (chunkSt i s e hw h2 hb k) (fun x => hb ((rC i s e hw h2 ⟨k, h⟩).emb x))
    else chunkSt i s e hw h2 hb k

/-- A segment's maximum over its rows of the block, by sublane. -/
def segMax (i : grid0.Coords) (s e : BitVec 32) (h2 : k0_cond2 i = 1#1) (hb : Vec F S3200x128 .f32) : FVec F S8x128 .f32 :=
  open Classical in if hw : k0_chk2 i s e then chunkSt i s e hw h2 hb (k0_t2_loop i s e).trips else k0_pay3

/-- The rectangle of a segment's accumulators. -/
abbrev rA (i : grid0.Coords) (a b : BitVec 32) (hw : k0_chk1 i a b) (h2 : k0_cond2 i = 1#1) (k : Fin (k0_t1_loop a b).trips) : Rect S8192x128 :=
  Rect.unit (s := S8192x128) (k0_off6 a b k) S8x128.size (k0_off6_inb i a b hw k h2)

/-- The words the table holds for the segment of trip `k`: where its rows start, and where they end. -/
def sW (i : grid0.Coords) (a b : BitVec 32) (hw : k0_chk1 i a b) (h2 : k0_cond2 i = 1#1) (tab : IVec S1225 32) (k : Fin (k0_t1_loop a b).trips) : BitVec 32 :=
  tab ((Rect.unit (s := S1225) (k0_off2 a b k) S1.size (k0_off2_inb i a b hw k h2)).emb first)
def eW (i : grid0.Coords) (a b : BitVec 32) (hw : k0_chk1 i a b) (h2 : k0_cond2 i = 1#1) (tab : IVec S1225 32) (k : Fin (k0_t1_loop a b).trips) : BitVec 32 :=
  tab ((Rect.unit (s := S1225) (k0_off3 a b k) S1.size (k0_off3_inb i a b hw k h2)).emb first)

/-- The accumulators after `k` segments of the block. -/
def accSt (i : grid0.Coords) (a b : BitVec 32) (hw : k0_chk1 i a b) (h2 : k0_cond2 i = 1#1) (tab : IVec S1225 32) (hb : Vec F S3200x128 .f32)
    (acc : Vec F S8192x128 .f32) : ℕ → Vec F S8192x128 .f32
  | 0 => acc
  | k + 1 => if h : k < (k0_t1_loop a b).trips then
      ((Memref.whole cc0_scratch0).access (rA i a b hw h2 ⟨k, h⟩) : View sig .tc _ _ _).write (Elt F) (accSt i a b hw h2 tab hb acc k)
        (k0_pay6 (segMax i (sW i a b hw h2 tab ⟨k, h⟩) (eW i a b hw h2 tab ⟨k, h⟩) h2 hb)
          (fun x => accSt i a b hw h2 tab hb acc k ((rA i a b hw h2 ⟨k, h⟩).emb x))) Finset.univ
    else accSt i a b hw h2 tab hb acc k

/-- The words naming a block's first and last segments. -/
def aW (i : grid0.Coords) (h2 : k0_cond2 i = 1#1) (tab : IVec S1225 32) : BitVec 32 :=
  tab ((Rect.unit (s := S1225) (k0_off1 i 1025#32) S1.size (k0_off1_inb i h2 0)).emb first)
def bW (i : grid0.Coords) (h2 : k0_cond2 i = 1#1) (tab : IVec S1225 32) : BitVec 32 :=
  tab ((Rect.unit (s := S1225) (k0_off1 i 1125#32) S1.size (k0_off1_inb i h2 1)).emb first)

/-- The accumulators after a block of rows. -/
def accBlk (i : grid0.Coords) (h2 : k0_cond2 i = 1#1) (tab : IVec S1225 32) (hb : Vec F S3200x128 .f32) (acc : Vec F S8192x128 .f32) : Vec F S8192x128 .f32 :=
  open Classical in if hw : k0_chk1 i (aW i h2 tab) (bW i h2 tab) then
    accSt i _ _ hw h2 tab hb acc (k0_t1_loop (aW i h2 tab) (bW i h2 tab)).trips else acc

theorem aW_eq (i : grid0.Coords) (h2 : k0_cond2 i = 1#1) (tab : IVec S1225 32) : aW i h2 tab = tw tab (1025 + (i 0).val) :=
  tab_read _ _ _ _ (off1_eq i 1025 (by decide))
theorem bW_eq (i : grid0.Coords) (h2 : k0_cond2 i = 1#1) (tab : IVec S1225 32) : bW i h2 tab = tw tab (1125 + (i 0).val) :=
  tab_read _ _ _ _ (off1_eq i 1125 (by decide))

variable {tab : IVec S1225 32} (hT : GoodTab tab)
include hT

theorem GoodTab.segsOK (i : grid0.Coords) (h2 : k0_cond2 i = 1#1) : SegsOK (aW i h2 tab) (bW i h2 tab) := by
  rw [aW_eq, bW_eq]; exact hT.segs _ ((cond2_iff i).1 h2)

theorem GoodTab.sW_eq (i : grid0.Coords) (h2 : k0_cond2 i = 1#1) (hw : k0_chk1 i (aW i h2 tab) (bW i h2 tab)) (k : Fin (k0_t1_loop (aW i h2 tab) (bW i h2 tab)).trips) :
    sW i _ _ hw h2 tab k = tw tab ((aW i h2 tab).toNat + k.val) := tab_read _ _ _ _ ((hT.segsOK i h2).off2 k)
theorem GoodTab.eW_eq (i : grid0.Coords) (h2 : k0_cond2 i = 1#1) (hw : k0_chk1 i (aW i h2 tab) (bW i h2 tab)) (k : Fin (k0_t1_loop (aW i h2 tab) (bW i h2 tab)).trips) :
    eW i _ _ hw h2 tab k = tw tab ((aW i h2 tab).toNat + k.val + 1) := tab_read _ _ _ _ ((hT.segsOK i h2).off3 k)

theorem GoodTab.rowsOK (i : grid0.Coords) (h2 : k0_cond2 i = 1#1) (hw : k0_chk1 i (aW i h2 tab) (bW i h2 tab)) (k : Fin (k0_t1_loop (aW i h2 tab) (bW i h2 tab)).trips) :
    RowsOK (i 0).val (sW i _ _ hw h2 tab k) (eW i _ _ hw h2 tab k) := by
  have hs := (hT.segsOK i h2).seg_le k
  rw [hT.sW_eq i h2 hw k, hT.eW_eq i h2 hw k]
  refine hT.rows _ ((cond2_iff i).1 h2) _ ?_ ?_
  · rw [← aW_eq i h2]; omega
  · rw [← bW_eq i h2]; exact hs

omit hT

/-! ### The loops' runs -/

section Runs

variable (c : Dev nD) (i : grid0.Coords)
  (M2 : Memref sig .tc .vmem S3200x128 .f32) (hM2 : M2.IsWhole) (M3 : Memref sig .tc .vmem S3200x4 .f32) (hM3 : M3.IsWhole)
  (M4 : Memref sig .tc .vmem S128x128 .f32) (hM4 : M4.IsWhole) (M5 : Memref sig .tc .vmem S4x128 .f32) (hM5 : M5.IsWhole)
  (M6 : Memref sig .tc .vmem S128x128 .f32) (hM6 : M6.IsWhole)

/-- The table, the accumulators and the scratch block, held. -/
abbrev tabPts (tab : IVec S1225 32) : sProp 𝕄 := ((c : Thread nD τ).loc main_v4) ↦{fullShare.right} (tab : Buf (Elt F) ((c : Thread nD τ).loc main_v4))
abbrev accPts (acc : Vec F S8192x128 .f32) : sProp 𝕄 := ((c : Thread nD τ).loc cc0_scratch0) ↦{fullShare} (acc : Buf (Elt F) ((c : Thread nD τ).loc cc0_scratch0))
abbrev hbPts (hb : Vec F S3200x128 .f32) : sProp 𝕄 := ((c : Thread nD τ).loc cc0_scratch1) ↦{fullShare} (hb : Buf (Elt F) ((c : Thread nD τ).loc cc0_scratch1))

/-- One chunk of a segment's rows. -/
theorem sound_chunk (h2 : k0_cond2 i = 1#1) (s e : BitVec 32) (hw : k0_chk2 i s e) (hb : Vec F S3200x128 .f32)
    (k : Fin (k0_t2_loop i s e).trips) (x : FVec F S8x128 .f32) :
    iprop(hbPts c hb ∗ ⌜x = chunkSt i s e hw h2 hb k.val⌝)
      ⊢ wp frame (wpE (defs₀ (F := F)) 𝒱₀ (c : Thread nD τ) none) Set.univ
          (k0_t2_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 s (loW i s) e hw (hiW i e) (k0_t2_loop i s e).lb k x)
          (fun y => iprop(hbPts c hb ∗ ⌜y = chunkSt i s e hw h2 hb (k.val + 1)⌝)) := by
  unfold k0_t2_body
  simp only [Prog.lift, Prog.bind_op, Prog.bind_ret, Prog.pure_eq_ret]
  iintro ⟨H, %hx⟩
  iapply (wp_load_rect 𝒱₀ (c : Thread nD τ) none Set.univ (m := Memref.whole cc0_scratch1) (r := rC i s e hw h2 k) (Finset.subset_univ _)) $$ H
  iintro H
  rw [wp_ret]; imodintro
  isplitl [H]; · iexact H
  ipureintro
  rw [chunkSt, dif_pos k.isLt, ← hx]
  rfl

/-- All chunks of a segment's rows, at the head of a program. -/
theorem sound_chunks (h2 : k0_cond2 i = 1#1) (s e : BitVec 32) (hw : k0_chk2 i s e) (hb : Vec F S3200x128 .f32)
    {β : Type} {kk : FVec F S8x128 .f32 → Prog (TpuEff nD τ sig (Elt F) Λ₀ .tc) β} {K : β → sProp 𝕄} :
    hbPts c hb
      ⊢ iprop((hbPts c hb -∗ wp frame (wpE (defs₀ (F := F)) 𝒱₀ (c : Thread nD τ) none) Set.univ (kk (segMax i s e h2 hb)) K)
        -∗ wp frame (wpE (defs₀ (F := F)) 𝒱₀ (c : Thread nD τ) none) Set.univ
          (Scf.Loop.for (k0_t2_loop i s e) (k0_t2_ok i s e hw h2) (k0_pay3 (F := F)) (k0_t2_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 s (loW i s) e hw (hiW i e) (k0_t2_loop i s e).lb) >>= kk) K) := by
  iintro H Hk
  iapply (Scf.wp_for_bind frame (wpE (defs₀ (F := F)) 𝒱₀ (c : Thread nD τ) none) Set.univ (k0_t2_loop i s e).lb (k0_t2_loop i s e).ub (k0_t2_loop i s e).st (k0_t2_ok i s e hw h2) _ _
    (fun k x => iprop(hbPts c hb ∗ ⌜x = chunkSt i s e hw h2 hb k⌝)) (fun k x => sound_chunk c i M2 hM2 M3 hM3 M4 hM4 M5 hM5 M6 hM6 h2 s e hw hb k x)) $$ [H]
  · isplitl [H]; · iexact H
    ipureintro; rfl
  iintro %x ⟨H, %hx⟩
  have hx' : x = segMax i s e h2 hb := by rw [hx]; unfold segMax; rw [dif_pos hw]
  subst hx'
  iapply Hk
  iexact H

/-- A loop of no trips passes its initial value on. -/
theorem sound_none {σ β : Type} (l : Scf.Loop 32) (hok : l.OK) (h0 : l.trips = 0) (x : σ) (body : Fin l.trips → σ → Prog (TpuEff nD τ sig (Elt F) Λ₀ .tc) σ)
    {kk : σ → Prog (TpuEff nD τ sig (Elt F) Λ₀ .tc) β} {K : β → sProp 𝕄} :
    wp frame (wpE (defs₀ (F := F)) 𝒱₀ (c : Thread nD τ) none) Set.univ (kk x) K
      ⊢ wp frame (wpE (defs₀ (F := F)) 𝒱₀ (c : Thread nD τ) none) Set.univ (Scf.Loop.for l hok x body >>= kk) K := by
  iintro H
  iapply (Scf.wp_for_bind frame (wpE (defs₀ (F := F)) 𝒱₀ (c : Thread nD τ) none) Set.univ l.lb l.ub l.st hok x body
    (fun _ y => iprop(⌜y = x⌝)) (fun k y => absurd (k.isLt.trans_eq h0) (Nat.not_lt_zero _)))
  · ipureintro; rfl
  iintro %y %hy
  subst hy
  iexact H

/-- What the body does for a segment once its two words are read and checked. -/
def segTail (h2 : k0_cond2 i = 1#1) (a b : BitVec 32) (hw : k0_chk1 i a b) (k : Fin (k0_t1_loop a b).trips)
    (s e : BitVec 32) (hchk : k0_chk2 i s e) (v66 : BitVec 32) (v77 : BitVec 1) (v78 : BitVec 32) : Prog (TpuEff nD τ sig (Elt F) Λ₀ .tc) (BitVec 32) := do
  let v89 : FVec F S8x128 .f32 ← Scf.Loop.for (k0_t2_loop i s e) (k0_t2_ok i s e hchk h2) (k0_pay3 (F := F)) (k0_t2_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 s (loW i s) e hchk (hiW i e) (k0_t2_loop i s e).lb)
  let v90 : FVec F S8x128 .f32 ← Scf.Loop.for (k0_t3_loop i s e) (k0_t3_ok i s e hchk h2) v89 (k0_t3_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 s (loW i s) e hchk (hiW i e) (k0_t2_loop i s e).lb v66 v77 v78)
  let v94 : Vec F S8x128 .f32 ← Prog.lift (.load (Memref.whole cc0_scratch0) (rA i a b hw h2 k).toLoadRect (View.loadsAt_vmem h_S8x128))
  let _v97 : Vec F S8x128 .f32 ← Prog.lift (.load (Memref.whole cc0_scratch0) (rA i a b hw h2 k).toLoadRect (View.loadsAt_vmem h_S8x128))
  Prog.lift (.store (Memref.whole cc0_scratch0) (rA i a b hw h2 k) (k0_pay6 v90 v94) Finset.univ (View.stores_vmem_bits_univ h_S8x128 rfl) (.inl rfl))
  pure 0#32

/-- The words the body computes of a segment's last row, for the loop that has no trips. -/
abbrev endW (i : grid0.Coords) (e : BitVec 32) : BitVec 32 := Scalar.subi (Scalar.addi (hiW i e) 32#32) 1#32

/-- The body of a segment's trip: its two words read, the check, the rest. -/
theorem t1_body_eq (h2 : k0_cond2 i = 1#1) (a b : BitVec 32) (hw : k0_chk1 i a b) (k : Fin (k0_t1_loop a b).trips) (x : BitVec 32) :
    k0_t1_body (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 (Scalar.muli (BitVec.ofNat 32 (i 0).val) 3200#32) a b hw k x
      = (do
        let s : Elt F .i32 ← smemLoad (Memref.whole main_v4) (Rect.unit (s := S1225) (k0_off2 a b k) S1.size (k0_off2_inb i a b hw k h2)) numel1_S1 rfl
        let e : Elt F .i32 ← smemLoad (Memref.whole main_v4) (Rect.unit (s := S1225) (k0_off3 a b k) S1.size (k0_off3_inb i a b hw k h2)) numel1_S1 rfl
        let h ← Prog.lift (TpuEff.assume (k0_chk2 i s e) (k0_chk2.dec i s e))
        segTail (F := F) i M2 hM2 M3 hM3 M4 hM4 M5 hM5 M6 hM6 h2 a b hw k s e h.down
          (Scalar.divsi (endW i e) 32#32)
          (Scalar.cmpi .ne (Scalar.subi (Scalar.extui (Scalar.cmpi .sgt (endW i e) 0#32)) (Scalar.extui (Scalar.cmpi .slt (endW i e) 0#32)))
            (Scalar.subi (Scalar.extui (Scalar.cmpi .sgt 32#32 0#32)) (Scalar.extui (Scalar.cmpi .slt 32#32 0#32))))
          (Scalar.remsi (endW i e) 32#32)) := by
  unfold k0_t1_body
  simp only [k0_part1_eq_skeleton]
  unfold k0_part1_skel
  rfl

theorem sound_segTail (h2 : k0_cond2 i = 1#1) (a b : BitVec 32) (hw : k0_chk1 i a b) (hb : Vec F S3200x128 .f32) (acc : Vec F S8192x128 .f32)
    (k : Fin (k0_t1_loop a b).trips) (s e : BitVec 32) (hchk : k0_chk2 i s e) (v66 : BitVec 32) (v77 : BitVec 1) (v78 : BitVec 32)
    {K : BitVec 32 → sProp 𝕄} :
    iprop(hbPts c hb ∗ accPts c acc)
      ⊢ iprop((∀ x, (hbPts c hb ∗ accPts c (((Memref.whole cc0_scratch0).access (rA i a b hw h2 k) : View sig .tc _ _ _).write (Elt F) acc
            (k0_pay6 (segMax i s e h2 hb) (fun x => acc ((rA i a b hw h2 k).emb x))) Finset.univ)) -∗ K x)
        -∗ wp frame (wpE (defs₀ (F := F)) 𝒱₀ (c : Thread nD τ) none) Set.univ
          (segTail (F := F) i M2 hM2 M3 hM3 M4 hM4 M5 hM5 M6 hM6 h2 a b hw k s e hchk v66 v77 v78) K) := by
  unfold segTail
  iintro ⟨HB, HA⟩ Hk
  iapply (sound_chunks c i M2 hM2 M3 hM3 M4 hM4 M5 hM5 M6 hM6 h2 s e hchk hb) $$ HB
  iintro HB
  iapply (sound_none c (k0_t3_loop i s e) _ (t3_trips _ _ _) _ _)
  simp only [Prog.lift, Prog.bind_op, Prog.bind_ret, Prog.pure_eq_ret, Prog.bind_assoc]
  iapply (wp_load_rect 𝒱₀ (c : Thread nD τ) none Set.univ (m := Memref.whole cc0_scratch0) (r := rA i a b hw h2 k) (Finset.subset_univ _)) $$ HA
  iintro HA
  iapply (wp_load_rect 𝒱₀ (c : Thread nD τ) none Set.univ (m := Memref.whole cc0_scratch0) (r := rA i a b hw h2 k) (Finset.subset_univ _)) $$ HA
  iintro HA
  iapply (wp_store 𝒱₀ (c : Thread nD τ) none Set.univ (m := Memref.whole cc0_scratch0) (r := rA i a b hw h2 k) (Mk := Finset.univ) (Finset.subset_univ _)) $$ HA
  iintro HA
  rw [wp_ret]; imodintro
  iapply Hk
  isplitl [HB]; · iexact HB
  iexact HA

/-- One segment of a block. -/
theorem sound_seg (h2 : k0_cond2 i = 1#1) (a b : BitVec 32) (hw : k0_chk1 i a b) (tab : IVec S1225 32) (hb : Vec F S3200x128 .f32) (acc : Vec F S8192x128 .f32)
    (hrows : ∀ k : Fin (k0_t1_loop a b).trips, RowsOK (i 0).val (sW i a b hw h2 tab k) (eW i a b hw h2 tab k))
    (k : Fin (k0_t1_loop a b).trips) (x : BitVec 32) :
    iprop(tabPts (F := F) c tab ∗ hbPts c hb ∗ accPts c (accSt i a b hw h2 tab hb acc k.val))
      ⊢ wp frame (wpE (defs₀ (F := F)) 𝒱₀ (c : Thread nD τ) none) Set.univ
          (k0_t1_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 (Scalar.muli (BitVec.ofNat 32 (i 0).val) 3200#32) a b hw k x)
          (fun _ => iprop(tabPts (F := F) c tab ∗ hbPts c hb ∗ accPts c (accSt i a b hw h2 tab hb acc (k.val + 1)))) := by
  have hchk : k0_chk2 i (sW i a b hw h2 tab k) (eW i a b hw h2 tab k) := (hrows k).chk
  rw [t1_body_eq]
  simp only [smemLoad, smemLoadElt, Prog.lift, Prog.bind_op, Prog.bind_ret, Prog.pure_eq_ret, Prog.bind_assoc]
  iintro ⟨HT, HB, HA⟩
  iapply (wp_load_rect 𝒱₀ (c : Thread nD τ) none Set.univ (m := Memref.whole main_v4) (r := Rect.unit (s := S1225) (k0_off2 a b k) S1.size (k0_off2_inb i a b hw k h2)) (Finset.subset_univ _)) $$ HT
  iintro HT
  iapply (wp_load_rect 𝒱₀ (c : Thread nD τ) none Set.univ (m := Memref.whole main_v4) (r := Rect.unit (s := S1225) (k0_off3 a b k) S1.size (k0_off3_inb i a b hw k h2)) (Finset.subset_univ _)) $$ HT
  iintro HT
  iapply (wp_assume 𝒱₀ (c : Thread nD τ) none Set.univ ?hchk)
  case hchk => exact hchk
  iapply (sound_segTail c i M2 hM2 M3 hM3 M4 hM4 M5 hM5 M6 hM6 h2 a b hw hb (accSt i a b hw h2 tab hb acc k.val) k
    (sW i a b hw h2 tab k) (eW i a b hw h2 tab k) hchk _ _ _) $$ [HB HA]
  · isplitl [HB]; · iexact HB
    iexact HA
  iintro %y ⟨HB, HA⟩
  isplitl [HT]; · iexact HT
  isplitl [HB]; · iexact HB
  rw [show accSt i a b hw h2 tab hb acc (k.val + 1) = _ from by rw [accSt, dif_pos k.isLt]]
  iexact HA

/-- All segments of a block, at the head of a program. -/
theorem sound_segs (h2 : k0_cond2 i = 1#1) (a b : BitVec 32) (hw : k0_chk1 i a b) (tab : IVec S1225 32) (hb : Vec F S3200x128 .f32) (acc : Vec F S8192x128 .f32)
    (hrows : ∀ k : Fin (k0_t1_loop a b).trips, RowsOK (i 0).val (sW i a b hw h2 tab k) (eW i a b hw h2 tab k))
    {β : Type} {kk : BitVec 32 → Prog (TpuEff nD τ sig (Elt F) Λ₀ .tc) β} {K : β → sProp 𝕄} :
    iprop(tabPts (F := F) c tab ∗ hbPts c hb ∗ accPts c acc)
      ⊢ iprop((∀ x, (tabPts (F := F) c tab ∗ hbPts c hb ∗ accPts c (accSt i a b hw h2 tab hb acc (k0_t1_loop a b).trips))
            -∗ wp frame (wpE (defs₀ (F := F)) 𝒱₀ (c : Thread nD τ) none) Set.univ (kk x) K)
        -∗ wp frame (wpE (defs₀ (F := F)) 𝒱₀ (c : Thread nD τ) none) Set.univ
          (Scf.Loop.for (k0_t1_loop a b) (k0_t1_ok i a b hw h2) 0#32 (k0_t1_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 (Scalar.muli (BitVec.ofNat 32 (i 0).val) 3200#32) a b hw) >>= kk) K) := by
  iintro ⟨HT, HB, HA⟩ Hk
  iapply (Scf.wp_for_bind frame (wpE (defs₀ (F := F)) 𝒱₀ (c : Thread nD τ) none) Set.univ (k0_t1_loop a b).lb (k0_t1_loop a b).ub (k0_t1_loop a b).st (k0_t1_ok i a b hw h2) _ _
    (fun k _ => iprop(tabPts (F := F) c tab ∗ hbPts c hb ∗ accPts c (accSt i a b hw h2 tab hb acc k)))
    (fun k x => sound_seg c i M2 hM2 M3 hM3 M4 hM4 M5 hM5 M6 hM6 h2 a b hw tab hb acc hrows k x)) $$ [HT HB HA]
  · isplitl [HT]; · iexact HT
    isplitl [HB]; · iexact HB
    iexact HA
  iintro %x H
  iapply Hk
  iexact H

/-- A rectangle of all of a shape names each element itself. -/
theorem emb_full {s : Shape} (off : Fin s.rank → ℕ) (ho : ∀ a, off a = 0) (h : ∀ a, off a + s.size a ≤ s.size a) (x : s.Idx) :
    (Rect.unit (s := s) off s.size h).emb x = x := by
  funext a; apply Fin.ext
  rw [Rect.emb_apply]
  show off a + 1 * (x a).val = (x a).val
  rw [ho a]; omega

omit [FloatOps F] in
/-- A load of all of a memref reads what it holds; -/
theorem read_full {s : Shape} {e : EltTy} (M : Memref sig .tc .vmem s e) (off : Fin s.rank → ℕ) (ho : ∀ a, off a = 0)
    (h : ∀ a, off a + s.size a ≤ s.size a) (g : Buf (Elt F) (M.view.loc (c : Thread nD τ))) :
    (M.access (Rect.unit (s := s) off s.size h)).read (Elt F) g = M.view.read (Elt F) g := by
  funext x
  show _root_.cast _ (g (M.view.emb ((Rect.unit (s := s) off s.size h).emb x))) = _root_.cast _ (g (M.view.emb x))
  rw [emb_full off ho h x]

omit [FloatOps F] in
/-- a store to all of it leaves the value stored. -/
theorem read_write_full {s : Shape} {e : EltTy} (M : Memref sig .tc .vmem s e) (off : Fin s.rank → ℕ) (ho : ∀ a, off a = 0)
    (h : ∀ a, off a + s.size a ≤ s.size a) (g : Buf (Elt F) (M.view.loc (c : Thread nD τ))) (v : Vec F s e) :
    M.view.read (Elt F) ((M.access (Rect.unit (s := s) off s.size h)).write (Elt F) g v Finset.univ) = v := by
  funext y
  conv_lhs => rw [← emb_full off ho h y]
  rw [View.read_slice_write_emb _ _ _ (Finset.mem_univ _)]

theorem zero2 : ∀ a : Fin 2, (![0, 0] : Fin 2 → ℕ) a = 0 := by decide

/-- A block of rows, at the head of a program: the products, the block's two words, the segments. -/
def rowsProg (h2 : k0_cond2 i = 1#1) : Prog (TpuEff nD τ sig (Elt F) Λ₀ .tc) PUnit := do
    let v9 : Vec F S3200x128 .f32 ← Prog.lift (.load M2 (Rect.unit (s := S3200x128) ![0, 0] S3200x128.size inb_S3200x128_S3200x128_0_0).toLoadRect (View.loadsAt_vmem h_S3200x128))
    let v10 : Vec F S128x128 .f32 ← Prog.lift (.load M4 (Rect.unit (s := S128x128) ![0, 0] S128x128.size inb_S128x128_S128x128_0_0).toLoadRect (View.loadsAt_vmem h_S128x128))
    let v13 : Vec F S3200x4 .f32 ← Prog.lift (.load M3 (Rect.unit (s := S3200x4) ![0, 0] S3200x4.size inb_S3200x4_S3200x4_0_0).toLoadRect (View.loadsAt_vmem h_S3200x4))
    let v15 : Vec F S4x128 .f32 ← Prog.lift (.load M5 (Rect.unit (s := S4x128) ![0, 0] S4x128.size inb_S4x128_S4x128_0_0).toLoadRect (View.loadsAt_vmem h_S4x128))
    let _v19 : Vec F S3200x128 .f32 ← Prog.lift (.load (Memref.whole cc0_scratch1) (Rect.unit (s := S3200x128) ![0, 0] S3200x128.size inb_S3200x128_S3200x128_0_0).toLoadRect (View.loadsAt_vmem h_S3200x128))
    Prog.lift (.store (Memref.whole cc0_scratch1) (Rect.unit (s := S3200x128) ![0, 0] S3200x128.size inb_S3200x128_S3200x128_0_0) (k0_pay2 v9 v10 v13 v15) Finset.univ (View.stores_vmem_bits_univ h_S3200x128 rfl) (.inl rfl))
    let a : Elt F .i32 ← smemLoad (Memref.whole main_v4) (Rect.unit (s := S1225) (k0_off1 i 1025#32) S1.size (k0_off1_inb i h2 0)) numel1_S1 rfl
    let b : Elt F .i32 ← smemLoad (Memref.whole main_v4) (Rect.unit (s := S1225) (k0_off1 i 1125#32) S1.size (k0_off1_inb i h2 1)) numel1_S1 rfl
    let h ← Prog.lift (TpuEff.assume (k0_chk1 i a b) (k0_chk1.dec i a b))
    let v36 : BitVec 32 ← Scf.Loop.for (k0_t1_loop a b) (k0_t1_ok i a b h.down h2) 0#32 (k0_t1_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 (Scalar.muli (BitVec.ofNat 32 (i 0).val) 3200#32) a b h.down)
    let _v37 : BitVec 32 ← Scf.Loop.for (k0_t4_loop a b) (k0_t4_ok i a b h.down h2) v36 (k0_t4_body i (Memref.whole main_v4) (Memref.isWhole_whole _) M2 hM2 M3 hM3 M4 hM4 M5 hM5 M6 hM6 (Memref.whole cc0_scratch0) (Memref.isWhole_whole _) (Memref.whole cc0_scratch1) (Memref.isWhole_whole _) h2 (Scalar.muli (BitVec.ofNat 32 (i 0).val) 3200#32) a b h.down
      (Scalar.addi a (Scalar.muli (Scalar.divsi (Scalar.subi (Scalar.addi b 1#32) a) 1#32) 1#32)))
    pure ⟨⟩

/-- The accumulators' zeroing. -/
def zeroProg : Prog (TpuEff nD τ sig (Elt F) Λ₀ .tc) PUnit := do
    let _v10 : Vec F S8192x128 .f32 ← Prog.lift (.load (Memref.whole cc0_scratch0) (Rect.unit (s := S8192x128) ![0, 0] S8192x128.size inb_S8192x128_S8192x128_0_0).toLoadRect (View.loadsAt_vmem h_S8192x128))
    Prog.lift (.store (Memref.whole cc0_scratch0) (Rect.unit (s := S8192x128) ![0, 0] S8192x128.size inb_S8192x128_S8192x128_0_0) (k0_pay1 (F := F)) Finset.univ (View.stores_vmem_bits_univ h_S8192x128 rfl) (.inl rfl))
    pure ⟨⟩

/-- An output step. -/
def outProg (h3 : k0_cond3 i = 1#1) : Prog (TpuEff nD τ sig (Elt F) Λ₀ .tc) PUnit := do
    let v13 : Vec F S1024x128 .f32 ← Prog.lift (.load (Memref.whole cc0_scratch0) (Rect.unit (s := S8192x128) (k0_off12 i) S1024x128.size (k0_off12_inb i h3)).toLoadRect (View.loadsAt_vmem h_S1024x128))
    let _v16 : Vec F S128x128 .f32 ← Prog.lift (.load M6 (Rect.unit (s := S128x128) ![0, 0] S128x128.size inb_S128x128_S128x128_0_0).toLoadRect (View.loadsAt_vmem h_S128x128))
    Prog.lift (.store M6 (Rect.unit (s := S128x128) ![0, 0] S128x128.size inb_S128x128_S128x128_0_0) (k0_pay11 v13) Finset.univ (View.stores_vmem_bits_univ h_S128x128 rfl) (.inl rfl))
    pure ⟨⟩

/-- The guard of the accumulators' zeroing. -/
abbrev cond1 (i : grid0.Coords) : BitVec 1 := Scalar.cmpi .ne (Scalar.extui (Scalar.cmpi .eq (BitVec.ofNat 32 (i 0).val) 0#32)) 0#32

/-- The body is its three guarded steps. -/
theorem body_eq : cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _)
    = (do
      if _h1 : cond1 i = 1#1 then zeroProg else pure ⟨⟩
      if h2 : k0_cond2 i = 1#1 then rowsProg i M2 hM2 M3 hM3 M4 hM4 M5 hM5 M6 hM6 h2 else pure ⟨⟩
      if h3 : k0_cond3 i = 1#1 then outProg i M6 h3 else pure ⟨⟩
      pure ⟨⟩) := by
  rw [cc0__fused_kernel_eq_skeleton]
  unfold cc0__fused_kernel_skel zeroProg rowsProg outProg
  by_cases h1 : cond1 i = 1#1 <;> by_cases h2 : k0_cond2 i = 1#1 <;> by_cases h3 : k0_cond3 i = 1#1 <;>
    simp only [dif_pos, dif_neg, h1, h2, h3, not_false_eq_true, bind_assoc, pure_bind]

theorem cond1_iff (i : grid0.Coords) : cond1 i = 1#1 ↔ (i 0).val = 0 := by
  have h : (i 0).val < 108 := (i 0).isLt
  rw [Scalar.guard_iff]
  by_cases hn : (i 0).val = 0
  · exact iff_of_true (Affine.eq_holds (Affine.ofNat (e := ((i 0).val : Int)) _ ⟨rfl, by omega⟩) (Affine.ofNat (e := 0) 0 ⟨rfl, by decide⟩) (by omega)) hn
  · exact iff_of_false (Affine.eq_fails (Affine.ofNat (e := ((i 0).val : Int)) _ ⟨rfl, by omega⟩) (Affine.ofNat (e := 0) 0 ⟨rfl, by decide⟩) (by omega)) hn

/-- The products of a block, from what the four windows hold. -/
abbrev prod (xb : Vec F S3200x128 .f32) (pb : Vec F S3200x4 .f32) (wb : Vec F S128x128 .f32) (vb : Vec F S4x128 .f32) : Vec F S3200x128 .f32 := k0_pay2 xb wb pb vb

theorem sound_zero {β : Type} {kk : PUnit → Prog (TpuEff nD τ sig (Elt F) Λ₀ .tc) β} {K : β → sProp 𝕄} (f : Vec F S8192x128 .f32) :
    accPts c f
      ⊢ iprop((accPts c (k0_pay1 (F := F)) -∗ wp frame (wpE (defs₀ (F := F)) 𝒱₀ (c : Thread nD τ) none) Set.univ (kk ⟨⟩) K)
        -∗ wp frame (wpE (defs₀ (F := F)) 𝒱₀ (c : Thread nD τ) none) Set.univ (zeroProg (F := F) >>= kk) K) := by
  unfold zeroProg
  simp only [Prog.lift, Prog.bind_op, Prog.bind_ret, Prog.pure_eq_ret, Prog.bind_assoc]
  iintro HA Hk
  iapply (wp_load_rect 𝒱₀ (c : Thread nD τ) none Set.univ (m := Memref.whole cc0_scratch0) (r := Rect.unit (s := S8192x128) ![0, 0] S8192x128.size inb_S8192x128_S8192x128_0_0) (Finset.subset_univ _)) $$ HA
  iintro HA
  iapply (wp_store 𝒱₀ (c : Thread nD τ) none Set.univ (m := Memref.whole cc0_scratch0) (r := Rect.unit (s := S8192x128) ![0, 0] S8192x128.size inb_S8192x128_S8192x128_0_0) (Mk := Finset.univ) (Finset.subset_univ _)) $$ HA
  iintro HA
  iapply Hk
  rw [show ((Memref.whole cc0_scratch0).access (Rect.unit (s := S8192x128) ![0, 0] S8192x128.size inb_S8192x128_S8192x128_0_0) : View sig .tc _ _ _).write (Elt F) f (k0_pay1 (F := F)) Finset.univ = k0_pay1 (F := F) from
    Memref.write_access_unit_zero_univ (Elt F) cc0_scratch0 (funext zero2) _ f _]
  iexact HA

theorem sound_rows (h2 : k0_cond2 i = 1#1) {tab : IVec S1225 32} (hT : GoodTab tab) (acc : Vec F S8192x128 .f32)
    (xb : Vec F S3200x128 .f32) (pb : Vec F S3200x4 .f32) (wb : Vec F S128x128 .f32) (vb : Vec F S4x128 .f32)
    {β : Type} {kk : PUnit → Prog (TpuEff nD τ sig (Elt F) Λ₀ .tc) β} {K : β → sProp 𝕄} :
    iprop(tabPts (F := F) c tab ∗ (∃ g, hbPts (F := F) c g) ∗ accPts c acc ∗ owns (c : Thread nD τ) M2 fullShare xb ∗ owns (c : Thread nD τ) M3 fullShare pb
        ∗ owns (c : Thread nD τ) M4 fullShare wb ∗ owns (c : Thread nD τ) M5 fullShare vb)
      ⊢ iprop(((tabPts (F := F) c tab ∗ (∃ g, hbPts (F := F) c g) ∗ accPts c (accBlk i h2 tab (prod xb pb wb vb) acc) ∗ owns (c : Thread nD τ) M2 fullShare xb ∗ owns (c : Thread nD τ) M3 fullShare pb
        ∗ owns (c : Thread nD τ) M4 fullShare wb ∗ owns (c : Thread nD τ) M5 fullShare vb)
          -∗ wp frame (wpE (defs₀ (F := F)) 𝒱₀ (c : Thread nD τ) none) Set.univ (kk ⟨⟩) K)
        -∗ wp frame (wpE (defs₀ (F := F)) 𝒱₀ (c : Thread nD τ) none) Set.univ (rowsProg i M2 hM2 M3 hM3 M4 hM4 M5 hM5 M6 hM6 h2 >>= kk) K) := by
  have hchk : k0_chk1 i (aW i h2 tab) (bW i h2 tab) := (hT.segsOK i h2).chk i
  unfold rowsProg owns
  simp only [smemLoad, smemLoadElt, Prog.lift, Prog.bind_op, Prog.bind_ret, Prog.pure_eq_ret, Prog.bind_assoc]
  iintro ⟨HT, ⟨%g, HB⟩, HA, ⟨%f2, %hf2, H2⟩, ⟨%f3, %hf3, H3⟩, ⟨%f4, %hf4, H4⟩, ⟨%f5, %hf5, H5⟩⟩ Hk
  iapply (wp_load_rect 𝒱₀ (c : Thread nD τ) none Set.univ (m := M2) (r := Rect.unit (s := S3200x128) ![0, 0] S3200x128.size inb_S3200x128_S3200x128_0_0) (View.set_slice_subset _ _)) $$ H2
  iintro H2
  iapply (wp_load_rect 𝒱₀ (c : Thread nD τ) none Set.univ (m := M4) (r := Rect.unit (s := S128x128) ![0, 0] S128x128.size inb_S128x128_S128x128_0_0) (View.set_slice_subset _ _)) $$ H4
  iintro H4
  iapply (wp_load_rect 𝒱₀ (c : Thread nD τ) none Set.univ (m := M3) (r := Rect.unit (s := S3200x4) ![0, 0] S3200x4.size inb_S3200x4_S3200x4_0_0) (View.set_slice_subset _ _)) $$ H3
  iintro H3
  iapply (wp_load_rect 𝒱₀ (c : Thread nD τ) none Set.univ (m := M5) (r := Rect.unit (s := S4x128) ![0, 0] S4x128.size inb_S4x128_S4x128_0_0) (View.set_slice_subset _ _)) $$ H5
  iintro H5
  iapply (wp_load_rect 𝒱₀ (c : Thread nD τ) none Set.univ (m := Memref.whole cc0_scratch1) (r := Rect.unit (s := S3200x128) ![0, 0] S3200x128.size inb_S3200x128_S3200x128_0_0) (Finset.subset_univ _)) $$ HB
  iintro HB
  iapply (wp_store 𝒱₀ (c : Thread nD τ) none Set.univ (m := Memref.whole cc0_scratch1) (r := Rect.unit (s := S3200x128) ![0, 0] S3200x128.size inb_S3200x128_S3200x128_0_0) (Mk := Finset.univ) (Finset.subset_univ _)) $$ HB
  iintro HB
  iapply (wp_load_rect 𝒱₀ (c : Thread nD τ) none Set.univ (m := Memref.whole main_v4) (r := Rect.unit (s := S1225) (k0_off1 i 1025#32) S1.size (k0_off1_inb i h2 0)) (Finset.subset_univ _)) $$ HT
  iintro HT
  iapply (wp_load_rect 𝒱₀ (c : Thread nD τ) none Set.univ (m := Memref.whole main_v4) (r := Rect.unit (s := S1225) (k0_off1 i 1125#32) S1.size (k0_off1_inb i h2 1)) (Finset.subset_univ _)) $$ HT
  iintro HT
  iapply (wp_assume 𝒱₀ (c : Thread nD τ) none Set.univ ?hchk)
  case hchk => exact hchk
  have hw : ((Memref.whole cc0_scratch1).access (Rect.unit (s := S3200x128) ![0, 0] S3200x128.size inb_S3200x128_S3200x128_0_0) : View sig .tc _ _ _).write (Elt F) g
      (k0_pay2 ((M2.access (Rect.unit (s := S3200x128) ![0, 0] S3200x128.size inb_S3200x128_S3200x128_0_0)).read (Elt F) f2)
        ((M4.access (Rect.unit (s := S128x128) ![0, 0] S128x128.size inb_S128x128_S128x128_0_0)).read (Elt F) f4)
        ((M3.access (Rect.unit (s := S3200x4) ![0, 0] S3200x4.size inb_S3200x4_S3200x4_0_0)).read (Elt F) f3)
        ((M5.access (Rect.unit (s := S4x128) ![0, 0] S4x128.size inb_S4x128_S4x128_0_0)).read (Elt F) f5)) Finset.univ = prod xb pb wb vb := by
    refine (Memref.write_access_unit_zero_univ (Elt F) cc0_scratch1 (funext zero2) _ g _).trans ?_
    rw [read_full c M2 _ zero2, read_full c M3 _ zero2, read_full c M4 _ zero2, read_full c M5 _ zero2, hf2, hf3, hf4, hf5]
  rw [hw]
  iapply (sound_segs c i M2 hM2 M3 hM3 M4 hM4 M5 hM5 M6 hM6 h2 (aW i h2 tab) (bW i h2 tab) hchk tab (prod xb pb wb vb) acc (hT.rowsOK i h2 hchk)) $$ [HT HB HA]
  · isplitl [HT]; · iexact HT
    isplitl [HB]; · iexact HB
    iexact HA
  iintro %x ⟨HT, HB, HA⟩
  iapply (sound_none c (k0_t4_loop (aW i h2 tab) (bW i h2 tab)) _ (t4_trips _ _) _ _)
  iapply Hk
  isplitl [HT]; · iexact HT
  isplitl [HB]; · iexists _; iexact HB
  isplitl [HA]
  · rw [show accBlk i h2 tab (prod xb pb wb vb) acc = _ from by unfold accBlk; rw [dif_pos hchk]]
    iexact HA
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  iexists f5; isplitr; · ipureintro; exact hf5
  iexact H5

/-- What an output step stores, from the accumulators. -/
def outVal (h3 : k0_cond3 i = 1#1) (acc : Vec F S8192x128 .f32) : Vec F S128x128 .f32 :=
  k0_pay11 (fun x => acc ((Rect.unit (s := S8192x128) (k0_off12 i) S1024x128.size (k0_off12_inb i h3)).emb x))

theorem sound_out (h3 : k0_cond3 i = 1#1) (acc : Vec F S8192x128 .f32) (d : Vec F S128x128 .f32)
    {β : Type} {kk : PUnit → Prog (TpuEff nD τ sig (Elt F) Λ₀ .tc) β} {K : β → sProp 𝕄} :
    iprop(accPts c acc ∗ owns (c : Thread nD τ) M6 fullShare d)
      ⊢ iprop(((accPts c acc ∗ owns (c : Thread nD τ) M6 fullShare (outVal i h3 acc))
          -∗ wp frame (wpE (defs₀ (F := F)) 𝒱₀ (c : Thread nD τ) none) Set.univ (kk ⟨⟩) K)
        -∗ wp frame (wpE (defs₀ (F := F)) 𝒱₀ (c : Thread nD τ) none) Set.univ (outProg i M6 h3 >>= kk) K) := by
  unfold outProg owns
  simp only [Prog.lift, Prog.bind_op, Prog.bind_ret, Prog.pure_eq_ret, Prog.bind_assoc]
  iintro ⟨HA, ⟨%f, %hf, H6⟩⟩ Hk
  iapply (wp_load_rect 𝒱₀ (c : Thread nD τ) none Set.univ (m := Memref.whole cc0_scratch0) (r := Rect.unit (s := S8192x128) (k0_off12 i) S1024x128.size (k0_off12_inb i h3)) (Finset.subset_univ _)) $$ HA
  iintro HA
  iapply (wp_load_rect 𝒱₀ (c : Thread nD τ) none Set.univ (m := M6) (r := Rect.unit (s := S128x128) ![0, 0] S128x128.size inb_S128x128_S128x128_0_0) (View.set_slice_subset _ _)) $$ H6
  iintro H6
  iapply (wp_store 𝒱₀ (c : Thread nD τ) none Set.univ (m := M6) (r := Rect.unit (s := S128x128) ![0, 0] S128x128.size inb_S128x128_S128x128_0_0) (Mk := Finset.univ) (View.set_slice_subset _ _)) $$ H6
  iintro H6
  iapply Hk
  isplitl [HA]; · iexact HA
  iexists _; isplitr
  swap; · iexact H6
  ipureintro
  rw [read_write_full c M6 _ zero2]
  rfl

/-- The first point: the accumulators zeroed, then the block of rows. -/
theorem sound_first (h1 : cond1 i = 1#1) (h2 : k0_cond2 i = 1#1) (h3 : k0_cond3 i ≠ 1#1) {tab : IVec S1225 32} (hT : GoodTab tab)
    (xb : Vec F S3200x128 .f32) (pb : Vec F S3200x4 .f32) (wb : Vec F S128x128 .f32) (vb : Vec F S4x128 .f32) :
    iprop(tabPts (F := F) c tab ∗ (∃ g, hbPts (F := F) c g) ∗ (∃ f, accPts (F := F) c f) ∗ owns (c : Thread nD τ) M2 fullShare xb ∗ owns (c : Thread nD τ) M3 fullShare pb
        ∗ owns (c : Thread nD τ) M4 fullShare wb ∗ owns (c : Thread nD τ) M5 fullShare vb)
      ⊢ (wp frame (wpE (defs₀ (F := F)) 𝒱₀ (c : Thread nD τ) none) Set.univ (cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _)) fun _ =>
        iprop(tabPts (F := F) c tab ∗ (∃ g, hbPts (F := F) c g) ∗ accPts c (accBlk i h2 tab (prod xb pb wb vb) (k0_pay1 (F := F))) ∗ owns (c : Thread nD τ) M2 fullShare xb ∗ owns (c : Thread nD τ) M3 fullShare pb
        ∗ owns (c : Thread nD τ) M4 fullShare wb ∗ owns (c : Thread nD τ) M5 fullShare vb) : sProp 𝕄) := by
  have e : cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _) = (zeroProg >>= fun _ => rowsProg i M2 hM2 M3 hM3 M4 hM4 M5 hM5 M6 hM6 h2 >>= fun _ => Pure.pure ⟨⟩) := by
    rw [body_eq]; simp only [dif_pos, dif_neg, h1, h2, h3, not_false_eq_true, ne_eq, pure_bind]
  rw [e]
  iintro ⟨HT, HB, ⟨%f, HA⟩, H⟩
  iapply (sound_zero c f) $$ HA
  iintro HA
  iapply (sound_rows c i M2 hM2 M3 hM3 M4 hM4 M5 hM5 M6 hM6 h2 hT (k0_pay1 (F := F)) xb pb wb vb) $$ [HT HB HA H]
  · isplitl [HT]; · iexact HT
    isplitl [HB]; · iexact HB
    isplitl [HA]; · iexact HA
    iexact H
  iintro H
  rw [Prog.pure_eq_ret, wp_ret]
  imodintro
  iexact H

/-- A later point of the blocks of rows. -/
theorem sound_mid (h1 : cond1 i ≠ 1#1) (h2 : k0_cond2 i = 1#1) (h3 : k0_cond3 i ≠ 1#1) {tab : IVec S1225 32} (hT : GoodTab tab) (acc : Vec F S8192x128 .f32)
    (xb : Vec F S3200x128 .f32) (pb : Vec F S3200x4 .f32) (wb : Vec F S128x128 .f32) (vb : Vec F S4x128 .f32) :
    iprop(tabPts (F := F) c tab ∗ (∃ g, hbPts (F := F) c g) ∗ accPts c acc ∗ owns (c : Thread nD τ) M2 fullShare xb ∗ owns (c : Thread nD τ) M3 fullShare pb
        ∗ owns (c : Thread nD τ) M4 fullShare wb ∗ owns (c : Thread nD τ) M5 fullShare vb)
      ⊢ (wp frame (wpE (defs₀ (F := F)) 𝒱₀ (c : Thread nD τ) none) Set.univ (cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _)) fun _ =>
        iprop(tabPts (F := F) c tab ∗ (∃ g, hbPts (F := F) c g) ∗ accPts c (accBlk i h2 tab (prod xb pb wb vb) acc) ∗ owns (c : Thread nD τ) M2 fullShare xb ∗ owns (c : Thread nD τ) M3 fullShare pb
        ∗ owns (c : Thread nD τ) M4 fullShare wb ∗ owns (c : Thread nD τ) M5 fullShare vb) : sProp 𝕄) := by
  have e : cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _) = (rowsProg i M2 hM2 M3 hM3 M4 hM4 M5 hM5 M6 hM6 h2 >>= fun _ => Pure.pure ⟨⟩) := by
    rw [body_eq]; simp only [dif_pos, dif_neg, h1, h2, h3, not_false_eq_true, ne_eq, pure_bind]
  rw [e]
  iintro H
  iapply (sound_rows c i M2 hM2 M3 hM3 M4 hM4 M5 hM5 M6 hM6 h2 hT acc xb pb wb vb) $$ H
  iintro H
  rw [Prog.pure_eq_ret, wp_ret]
  imodintro
  iexact H

/-- An output point. -/
theorem sound_last (h1 : cond1 i ≠ 1#1) (h2 : k0_cond2 i ≠ 1#1) (h3 : k0_cond3 i = 1#1) (acc : Vec F S8192x128 .f32) (d : Vec F S128x128 .f32) :
    iprop(accPts c acc ∗ owns (c : Thread nD τ) M6 fullShare d)
      ⊢ (wp frame (wpE (defs₀ (F := F)) 𝒱₀ (c : Thread nD τ) none) Set.univ (cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _)) fun _ =>
        iprop(accPts c acc ∗ owns (c : Thread nD τ) M6 fullShare (outVal i h3 acc)) : sProp 𝕄) := by
  have e : cc0__fused_kernel (F := F) i (Memref.whole main_v4) (Memref.isWhole_whole _) M2 hM2 M3 hM3 M4 hM4 M5 hM5 M6 hM6 (Memref.whole cc0_scratch0) (Memref.isWhole_whole _) (Memref.whole cc0_scratch1) (Memref.isWhole_whole _) = (outProg i M6 h3 >>= fun _ => Pure.pure ⟨⟩) := by
    rw [body_eq]; simp only [dif_pos, dif_neg, h1, h2, h3, not_false_eq_true, ne_eq, pure_bind]
  rw [e]
  iintro H
  iapply (sound_out c i M6 h3 acc d) $$ H
  iintro H
  rw [Prog.pure_eq_ret, wp_ret]
  imodintro
  iexact H

end Runs

end Cert.KernelIdeal.Hand

end
-- ==== Proof.Data.lean ====
/-
  The buffers when the kernel is entered, what the windows and the accumulators hold at each grid
  point, and the body's obligation at each point.
-/
module

public import proofs.«01_k».proof.Proof.Body
public import Idealize.ShloMosaic.Lib.StableHlo.Run
public import Idealize.ShloMosaic.Lib.Pipeline.FrameBody

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-! ### The buffers at the kernel's entry -/

/-- Core `c`'s buffers at launch; -/
abbrev V₀ (c : Dev nD) : Valuation τ sig (Elt F) := fun b => m ((c : Dev nD), b)

/-- after the operations before the kernel. -/
def Vv (c : Dev nD) : Valuation τ sig (Elt F) :=
  StableHlo.after hostOps0_2 (StableHlo.after hostOps0_1 (StableHlo.after hostOps0 (V₀ m c)))

/-- The same, by reference. -/
def V (c : Dev nD) (b : Ref sig .tc) : Buf (Elt F) ((c : Thread nD τ).loc b) := Vv m c b

/-- The prefetched table: starts of the segments, first and last segment of each block of rows. -/
def tab : IVec S1225 32 := V m 0 main_v4

/-- The tables' contents the kernel runs at. -/
def adm : (pcfg0 (F := F)).Adm := ⟨fun k => V m 0 (pre0.ref k), trivial⟩

abbrev cfgA : Pipeline.Cfg sig Λ₀ := cfg0 (adm m)
abbrev pcs : Fin 1 → Pipeline.Cfg sig Λ₀ := Pipeline.pin pcfgs fun _ => adm m

/-! ### The grid -/

theorem coords_val : ∀ t : Fin grid0.N, ((grid0.coords t) 0).val = t.val := by decide

/-- The output window, the others' contents aside. -/
abbrev winO : Pipeline.Window sig grid0 := (cfgA m).win 4

theorem idx4 (t : Fin grid0.N) : cc0_transform_4 (grid0.coords t) = ![t.val - 100, 0] := by
  revert t; decide

/-! ### What the windows hold -/

/-- Window `w`'s block at point `t`. -/
def iblk (c : Dev nD) (w : Fin 5) (t : Fin grid0.N) : (((cfgA m).win w).xblock (grid0.coords t)).Idx → Elt F ((cfgA m).win w).elt :=
  (((cfgA m).win w).blk t).view.read (Elt F) (V m c (Pipeline.arrRef spec0 w))

/-- The products of the block at point `t`. -/
def prodAt (c : Dev nD) (t : Fin grid0.N) : Vec F S3200x128 .f32 := prod (iblk m c 0 t) (iblk m c 1 t) (iblk m c 2 t) (iblk m c 3 t)

/-- The accumulators before point `n` (before the first: zeros, which the first point stores). -/
def accAt (c : Dev nD) : ℕ → Vec F S8192x128 .f32
  | 0 => k0_pay1
  | n + 1 => if h : ∃ hn : n < grid0.N, k0_cond2 (grid0.coords ⟨n, hn⟩) = 1#1
      then accBlk (grid0.coords ⟨n, h.1⟩) h.2 (tab m) (prodAt m c ⟨n, h.1⟩) (accAt c n) else accAt c n

theorem accAt_rows (c : Dev nD) (t : Fin grid0.N) (h2 : k0_cond2 (grid0.coords t) = 1#1) :
    accAt m c (t.val + 1) = accBlk (grid0.coords t) h2 (tab m) (prodAt m c t) (accAt m c t.val) := by
  conv_lhs => unfold accAt
  rw [dif_pos ⟨t.isLt, h2⟩]

theorem accAt_out (c : Dev nD) (t : Fin grid0.N) (h2 : k0_cond2 (grid0.coords t) ≠ 1#1) :
    accAt m c (t.val + 1) = accAt m c t.val := by
  conv_lhs => unfold accAt
  rw [dif_neg fun h => h2 h.2]

/-- What an output point leaves in the result's window. -/
def outAt (c : Dev nD) (t : Fin grid0.N) : Vec F S128x128 .f32 :=
  if h3 : k0_cond3 (grid0.coords t) = 1#1 then outVal (grid0.coords t) h3 (accAt m c t.val) else fun _ => FloatOps.ofBits .f32 0#32

/-- The body's invariant before point `n`. -/
def inv (c : Dev nD) (n : ℕ) : sProp 𝕄 :=
  iprop(tabPts (F := F) c (tab m) ∗ (∃ g, hbPts (F := F) c g) ∗ (if n = 0 then iprop(∃ f, accPts (F := F) c f) else accPts c (accAt m c n)))

/-- The proof data. -/
def dats (_ : Fin 1) (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := inv m c t.val
  q _ := fullShare
  owed _ := 0

theorem before0 (c : Dev nD) (t : Fin grid0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin grid0.N) (d) : (dats m 0 c).before 1 t d = iblk m c 1 t :=
  ((dats m 0 c).before_in_eq_fetched 1 rfl (fun _ => rfl) (fun _ _ _ => rfl) (fun _ => rfl) t d).trans rfl
theorem before2 (c : Dev nD) (t : Fin grid0.N) (d) : (dats m 0 c).before 2 t d = iblk m c 2 t :=
  ((dats m 0 c).before_in_eq_fetched 2 rfl (fun _ => rfl) (fun _ _ _ => rfl) (fun _ => rfl) t d).trans rfl
theorem before3 (c : Dev nD) (t : Fin grid0.N) (d) : (dats m 0 c).before 3 t d = iblk m c 3 t :=
  ((dats m 0 c).before_in_eq_fetched 3 rfl (fun _ => rfl) (fun _ _ _ => rfl) (fun _ => rfl) t d).trans rfl

/-- The result's window is written back at the output points alone. -/
theorem flush4 (t : Fin grid0.N) : ((cfgA m).win 4).flush t = decide (100 ≤ t.val) := by
  have hN : grid0.N = 108 := N_0
  have ht := t.isLt
  have key : ((cfgA m).win 4).flush t = true ↔ 100 ≤ t.val := by
    unfold Pipeline.Window.flush Pipeline.Window.index
    show ((true && (decide (t.val + 1 = grid0.N) || decide (∃ h : t.val + 1 < grid0.N, cc0_transform_4 (grid0.coords ⟨t.val + 1, h⟩) ≠ cc0_transform_4 (grid0.coords t)))) = true) ↔ _
    simp only [Bool.true_and, Bool.or_eq_true, decide_eq_true_eq, idx4]
    constructor
    · rintro (h | ⟨h, hne⟩)
      · omega
      · refine Classical.byContradiction fun hc => hne ?_
        rw [show t.val + 1 - 100 = t.val - 100 by omega]
    · intro h
      by_cases h' : t.val + 1 = grid0.N
      · exact .inl h'
      · refine .inr ⟨by omega, fun e => ?_⟩
        have e0 := congrFun e 0
        have e1 : t.val + 1 - 100 = t.val - 100 := e0
        omega
  by_cases h : 100 ≤ t.val
  · rw [key.mpr h, decide_eq_true h]
  · rw [decide_eq_false h]; exact Bool.eq_false_iff.mpr fun e => h (key.mp e)

end Cert.KernelIdeal.Hand

end
-- ==== Proof.Oblig.lean ====
/-
  The body's obligation: at every grid point the kernel's body takes the invariant to the next
  point's, given a table whose blocks meet consecutive segments.
-/
module

public import proofs.«01_k».proof.Proof.Data

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ)

/-- The current buffer of window `w` at point `t`. -/
abbrev st (t : Fin grid0.N) (w : Fin 5) := ((cfgA m).win w).stage ((cfgA m).slots t w)

/-- What the core owes, which is nothing, does not depend on the point. -/
theorem owes_step (c : Dev nD) (t : Fin grid0.N) :
    (dats m 0 c).owesAt () t.castSucc ⊢ ((dats m 0 c).owesAt () t.succ : sProp 𝕄) := by
  unfold Dat.owesAt Pipeline.owesWithin
  iintro ⟨%W, %hW, HW⟩
  iexists W
  isplitr
  · ipureintro
    exact hW
  · iexact HW

/-- At an idle point the result's window keeps what it held. -/
theorem leaves4_idle (c : Dev nD) (t : Fin grid0.N) (h : t.val < 100) :
    (dats m 0 c).leavesExact 4 t = (iprop(∃ d, owns (c : Thread nD τ) (st m t 4) fullShare ((dats m 0 c).before 4 t d)) : sProp 𝕄) := by
  refine (dats m 0 c).leavesExact_idle 4 t ?_ ?_
  · show (!(k0_cond3 (grid0.coords t) == 1#1)) = true
    have : ¬ k0_cond3 (grid0.coords t) = 1#1 := fun e => by
      have := (cond3_iff _).mp e; rw [coords_val] at this; omega
    simp [this]
  · rw [flush4]; exact decide_eq_false (by omega)

/-- At an output point it holds its block of the result. -/
theorem leaves4_live (c : Dev nD) (t : Fin grid0.N) (h : 100 ≤ t.val) :
    (dats m 0 c).leavesExact 4 t = (owns (c : Thread nD τ) (st m t 4) fullShare (outAt m c t) : sProp 𝕄) := by
  have e : (cfgA m).idle 4 ((cfgA m).grid.coords t) = false := by
    show (!(k0_cond3 (grid0.coords t) == 1#1)) = false
    have : k0_cond3 (grid0.coords t) = 1#1 := (cond3_iff _).mpr (by rw [coords_val]; exact h)
    simp [this]
  unfold Dat.leavesExact
  rw [e]
  rfl

/-- The body's obligation. -/
theorem body_step (hT : GoodTab (tab m)) (c : Dev nD) :
    BodyObligation (dats m 0 c) (defs₀ (F := F)) 𝒱₀ () Set.univ := fun t => by
  rw [bigSep_W0, bigSep_W0]
  show iprop(inv m c t.val ∗ (dats m 0 c).owesAt () t.castSucc
      ∗ (∃ d, owns (c : Thread nD τ) (st m t 0) fullShare ((dats m 0 c).before 0 t d))
      ∗ (∃ d, owns (c : Thread nD τ) (st m t 1) fullShare ((dats m 0 c).before 1 t d))
      ∗ (∃ d, owns (c : Thread nD τ) (st m t 2) fullShare ((dats m 0 c).before 2 t d))
      ∗ (∃ d, owns (c : Thread nD τ) (st m t 3) fullShare ((dats m 0 c).before 3 t d))
      ∗ (∃ d, owns (c : Thread nD τ) (st m t 4) fullShare ((dats m 0 c).before 4 t d)))
    ⊢ wp frame (wpE (defs₀ (F := F)) 𝒱₀ (c : Thread nD τ) none) Set.univ
        (cc0__fused_kernel (F := F) (grid0.coords t) (Memref.whole main_v4) (Memref.isWhole_whole _)
          (st m t 0) (hstage0_0 _) (st m t 1) (hstage0_1 _) (st m t 2) (hstage0_2 _) (st m t 3) (hstage0_3 _) (st m t 4) (hstage0_4 _)
          (Memref.whole cc0_scratch0) (Memref.isWhole_whole _) (Memref.whole cc0_scratch1) (Memref.isWhole_whole _)) fun _ =>
        iprop(inv m c (t.val + 1) ∗ (dats m 0 c).owesAt () t.succ
          ∗ owns (c : Thread nD τ) (st m t 0) fullShare (iblk m c 0 t)
          ∗ owns (c : Thread nD τ) (st m t 1) fullShare (iblk m c 1 t)
          ∗ owns (c : Thread nD τ) (st m t 2) fullShare (iblk m c 2 t)
          ∗ owns (c : Thread nD τ) (st m t 3) fullShare (iblk m c 3 t)
          ∗ (dats m 0 c).leavesExact 4 t)
  simp only [before0, before1, before2, before3]
  by_cases h100 : t.val < 100
  · have h2 : k0_cond2 (grid0.coords t) = 1#1 := (cond2_iff _).mpr (by rw [coords_val]; exact h100)
    have h3 : k0_cond3 (grid0.coords t) ≠ 1#1 := fun e => by
      have := (cond3_iff _).mp e; rw [coords_val] at this; omega
    rw [leaves4_idle m c t h100]
    unfold inv
    rw [if_neg (Nat.succ_ne_zero t.val), accAt_rows m c t h2]
    by_cases h0 : t.val = 0
    · have h1 : cond1 (grid0.coords t) = 1#1 := (cond1_iff _).mpr (by rw [coords_val]; exact h0)
      have ha : accAt m c t.val = k0_pay1 := by rw [h0]; rfl
      rw [if_pos h0, ha]
      iintro ⟨⟨HT, HB, HA⟩, HO, ⟨%d0, H0⟩, ⟨%d1, H1⟩, ⟨%d2, H2⟩, ⟨%d3, H3⟩, H4⟩
      iapply (wp_wand_r _ _ _)
      isplitl [HT HB HA H0 H1 H2 H3]
      · iapply (sound_first c (grid0.coords t) (st m t 0) (hstage0_0 _) (st m t 1) (hstage0_1 _) (st m t 2) (hstage0_2 _) (st m t 3) (hstage0_3 _) (st m t 4) (hstage0_4 _) h1 h2 h3 hT (iblk m c 0 t) (iblk m c 1 t) (iblk m c 2 t) (iblk m c 3 t))
        isplitl [HT]; · iexact HT
        isplitl [HB]; · iexact HB
        isplitl [HA]; · iexact HA
        isplitl [H0]; · iexact H0
        isplitl [H1]; · iexact H1
        isplitl [H2]; · iexact H2
        iexact H3
      · iintro %_ ⟨HT, HB, HA, H0, H1, H2, H3⟩
        isplitl [HT HB HA]
        · isplitl [HT]; · iexact HT
          isplitl [HB]; · iexact HB
          iexact HA
        isplitl [HO]; · iapply (owes_step m c t) $$ HO
        isplitl [H0]; · iexact H0
        isplitl [H1]; · iexact H1
        isplitl [H2]; · iexact H2
        isplitl [H3]; · iexact H3
        iexact H4
    · have h1 : cond1 (grid0.coords t) ≠ 1#1 := fun e => h0 (by have := (cond1_iff _).mp e; rwa [coords_val] at this)
      rw [if_neg h0]
      iintro ⟨⟨HT, HB, HA⟩, HO, ⟨%d0, H0⟩, ⟨%d1, H1⟩, ⟨%d2, H2⟩, ⟨%d3, H3⟩, H4⟩
      iapply (wp_wand_r _ _ _)
      isplitl [HT HB HA H0 H1 H2 H3]
      · iapply (sound_mid c (grid0.coords t) (st m t 0) (hstage0_0 _) (st m t 1) (hstage0_1 _) (st m t 2) (hstage0_2 _) (st m t 3) (hstage0_3 _) (st m t 4) (hstage0_4 _) h1 h2 h3 hT (accAt m c t.val) (iblk m c 0 t) (iblk m c 1 t) (iblk m c 2 t) (iblk m c 3 t))
        isplitl [HT]; · iexact HT
        isplitl [HB]; · iexact HB
        isplitl [HA]; · iexact HA
        isplitl [H0]; · iexact H0
        isplitl [H1]; · iexact H1
        isplitl [H2]; · iexact H2
        iexact H3
      · iintro %_ ⟨HT, HB, HA, H0, H1, H2, H3⟩
        isplitl [HT HB HA]
        · isplitl [HT]; · iexact HT
          isplitl [HB]; · iexact HB
          iexact HA
        isplitl [HO]; · iapply (owes_step m c t) $$ HO
        isplitl [H0]; · iexact H0
        isplitl [H1]; · iexact H1
        isplitl [H2]; · iexact H2
        isplitl [H3]; · iexact H3
        iexact H4
  · have h100' : 100 ≤ t.val := Nat.le_of_not_lt h100
    have h2 : k0_cond2 (grid0.coords t) ≠ 1#1 := fun e => h100 (by have := (cond2_iff _).mp e; rwa [coords_val] at this)
    have h3 : k0_cond3 (grid0.coords t) = 1#1 := (cond3_iff _).mpr (by rw [coords_val]; exact h100')
    have h1 : cond1 (grid0.coords t) ≠ 1#1 := fun e => by
      have := (cond1_iff _).mp e; rw [coords_val] at this; omega
    have h0 : t.val ≠ 0 := by omega
    have ho : outAt m c t = outVal (grid0.coords t) h3 (accAt m c t.val) := by unfold outAt; rw [dif_pos h3]
    rw [leaves4_live m c t h100', ho]
    unfold inv
    rw [if_neg (Nat.succ_ne_zero t.val), if_neg h0, accAt_out m c t h2]
    iintro ⟨⟨HT, HB, HA⟩, HO, ⟨%d0, H0⟩, ⟨%d1, H1⟩, ⟨%d2, H2⟩, ⟨%d3, H3⟩, ⟨%d4, H4⟩⟩
    iapply (wp_wand_r _ _ _)
    isplitl [HA H4]
    · iapply (sound_last c (grid0.coords t) (st m t 0) (hstage0_0 _) (st m t 1) (hstage0_1 _) (st m t 2) (hstage0_2 _) (st m t 3) (hstage0_3 _) (st m t 4) (hstage0_4 _) h1 h2 h3 (accAt m c t.val) ((dats m 0 c).before 4 t d4))
      isplitl [HA]; · iexact HA
      iexact H4
    · iintro %_ ⟨HA, H4⟩
      isplitl [HT HB HA]
      · isplitl [HT]; · iexact HT
        isplitl [HB]; · iexact HB
        iexact HA
      isplitl [HO]; · iapply (owes_step m c t) $$ HO
      isplitl [H0]; · iexact H0
      isplitl [H1]; · iexact H1
      isplitl [H2]; · iexact H2
      isplitl [H3]; · iexact H3
      iexact H4

end Cert.KernelIdeal.Hand

end
-- ==== Proof.Run.lean ====
/-
  The run of the whole program: the operations before the kernel, then the kernel, from any
  memory whose table has the shape the kernel needs.
-/
module

public import proofs.«01_k».proof.Proof.Oblig
public import Idealize.ShloMosaic.Lib.Pipeline.Quiescent

@[expose] public section

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ
local notation "𝔻" => Pipeline.defs (pcfgs (F := F)) (defs₀ (F := F))
local notation "𝕍" => Variants.lift 𝒱₀

variable (m : (ℓ : Loc nD τ sig) → Buf (Elt F) ℓ) (ρ : Dev nD → PrngReg)

/-! ### The pipeline's algebra -/

/-- The rounds' algebra is the whole user component. -/
def EP : Emb (UR sig nD τ) 𝕄 :=
  (Emb.refl _).trans (uEmb (nD := nD) (sig := sig) (Ix := Unit) (Val := Elt F) (Name := ℕ) (U := UR sig nD τ) (Lvl := ℕ)).toEmb

instance EP_landsIn : (EP (F := F)).LandsIn (upEmb : UEmb _ 𝕄) := by unfold EP; infer_instance

/-- Every staging cell at round 0 and a token for every transfer. -/
def u₀ : UR sig nD τ := initOf (Pipeline.cells (pcs m) (cellOf_inj fun _ => adm m)) (Pipeline.launchToks (pcs m) (cellOf_inj fun _ => adm m))

/-! ### The operations before the kernel -/

/-- The buffers that outlive the kernel. -/
def ucRefs : Finset (DevRef τ sig) := (StableHlo.tcRefs τ sig).filter (¬ ·.isScoped)

theorem unscoped_held (c : Dev nD) (W : Valuation τ sig (Elt F)) :
    (unscopedBufs c (fun b => W b) : sProp 𝕄) = StableHlo.held c ucRefs W := by
  unfold unscopedBufs StableHlo.held ucRefs StableHlo.tcRefs
  rw [Finset.filter_map, bigSep_map]
  rfl

omit [FloatOps F] in
theorem op_sub (op : HloOp τ sig (Elt F)) (h : op.bufs ⊆ StableHlo.tcRefs τ sig) : op.bufs ⊆ ucRefs :=
  fun b hb => Finset.mem_filter.mpr ⟨h hb, fun h => Bool.false_ne_true ((op.no_scoped b hb).symm.trans h)⟩

theorem sub0 : ∀ op ∈ (hostOps0 : List (HloOp τ sig (Elt F))), op.bufs ⊆ ucRefs :=
  fun op h => op_sub op (List.forall_iff_forall_mem.mp hostOps0_sub op h)
theorem sub1 : ∀ op ∈ (hostOps0_1 : List (HloOp τ sig (Elt F))), op.bufs ⊆ ucRefs :=
  fun op h => op_sub op (List.forall_iff_forall_mem.mp hostOps0_1_sub op h)
theorem sub2 : ∀ op ∈ (hostOps0_2 : List (HloOp τ sig (Elt F))), op.bufs ⊆ ucRefs :=
  fun op h => op_sub op (List.forall_iff_forall_mem.mp hostOps0_2_sub op h)
theorem fresh0 : ∀ op ∈ (hostOps0 : List (HloOp τ sig (Elt F))), op.fresh = ∅ :=
  fun op h => List.forall_iff_forall_mem.mp (show (hostOps0 : List (HloOp τ sig (Elt F))).Forall (·.fresh = ∅) from rfl) op h
theorem fresh1 : ∀ op ∈ (hostOps0_1 : List (HloOp τ sig (Elt F))), op.fresh = ∅ :=
  fun op h => List.forall_iff_forall_mem.mp (show (hostOps0_1 : List (HloOp τ sig (Elt F))).Forall (·.fresh = ∅) from
    ⟨rfl, rfl, rfl, rfl, rfl, rfl, rfl, rfl⟩) op h
theorem fresh2 : ∀ op ∈ (hostOps0_2 : List (HloOp τ sig (Elt F))), op.fresh = ∅ :=
  fun op h => List.forall_iff_forall_mem.mp (show (hostOps0_2 : List (HloOp τ sig (Elt F))).Forall (·.fresh = ∅) from
    ⟨rfl, rfl, rfl, rfl, rfl, rfl, rfl, rfl, rfl, rfl, rfl, rfl, rfl⟩) op h

set_option backward.isDefEq.respectTransparency.types false in
/-- The program runs its operations, then the kernel. -/
theorem main_step (c : Dev nD) (Q : PUnit → sProp 𝕄) :
    iprop((iprop(boundary (c : Thread nD τ) ∗ unscopedBufs c (V m c))
            -∗ wp frame (wpE 𝔻 𝕍 (c : Thread nD τ) none) Set.univ (.op (.customCall (Pipeline.entry 0) ()) fun _ => .ret ⟨⟩) Q)
        ∗ boundary (c : Thread nD τ) ∗ unscopedBufs c (fun b => m ((c : Thread nD τ).loc b)))
      ⊢ wp frame (wpE 𝔻 𝕍 (c : Thread nD τ) none) Set.univ (main (F := F) c) Q := by
  rw [show (unscopedBufs c (fun b => m ((c : Thread nD τ).loc b)) : sProp 𝕄) = StableHlo.held c ucRefs (V₀ m c) from unscoped_held c (V₀ m c),
    show (unscopedBufs c (V m c) : sProp 𝕄) = StableHlo.held c ucRefs (Vv m c) from unscoped_held c (Vv m c),
    main_chain, Pipeline.chain_cons, Pipeline.chain_cons, Pipeline.chain_cons, Pipeline.chain_cons]
  iintro ⟨Hk, Hb, HV⟩
  iapply (StableHlo.wp_seq 𝕍 none Set.univ c ucRefs _ hostOps0 sub0 fresh0 (V₀ m c)) $$ [Hb HV]
  · isplitl [Hb]; · iexact Hb
    iexact HV
  iintro ⟨Hb, HV⟩
  iapply (StableHlo.wp_seq 𝕍 none Set.univ c ucRefs _ hostOps0_1 sub1 fresh1 _) $$ [Hb HV]
  · isplitl [Hb]; · iexact Hb
    iexact HV
  iintro ⟨Hb, HV⟩
  iapply (StableHlo.wp_seq 𝕍 none Set.univ c ucRefs _ hostOps0_2 sub2 fresh2 _) $$ [Hb HV]
  · isplitl [Hb]; · iexact Hb
    iexact HV
  iintro ⟨Hb, HV⟩
  simp only [Prog.lift, Prog.bind_op, Prog.bind_ret]
  iapply Hk
  isplitl [Hb]; · iexact Hb
  iexact HV

/-! ### The run -/

theorem dev_eq (c : Dev nD) : c = 0 := Subsingleton.elim _ _

theorem shares (c : Dev nD) (w : Fin 5) : (dats m 0 c).share w = fullShare := by
  unfold Dat.share; split <;> rfl

/-- What a final state holds of the buffers the kernel does not touch. -/
def Rest (c : Dev nD) (s : MemSt nD τ sig (Elt F)) : Prop :=
  s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4
    ∧ s.mem ((c : Thread nD τ).loc main_v11) = V m c main_v11 ∧ s.mem ((c : Thread nD τ).loc main_v12) = V m c main_v12

/-- The run: from a memory whose table is a good one, every execution ends, with each window's array as the
    write-backs leave it, the other buffers as the operations left them, and every counter at zero. -/
theorem run_main (hT : GoodTab (tab m)) :
    θ_run 𝔻 (onTc (τ := τ) (main (F := F))) ⟨m, fun _ => 0, ρ⟩ fun r =>
      (∀ c : Dev nD, (∀ w : Fin 5, r.2.mem ((spec0 w).arr.view.loc (c : Thread nD τ)) = (dats m 0 c).arrAt w grid0.N) ∧ Rest m c r.2)
        ∧ r.2.sem = fun _ => 0 :=
  Pipeline.θ_run_region_noSem_pf_quiescent (pcfgs (F := F)) (fun _ => adm m) (dats m) () (cellOf_inj fun _ => adm m) (0 : Fin 1)
    (launch0 (F := F)).win.to₀ (launch0 (F := F)).pre EP defs₀ 𝒱₀ m ρ main
    (hbody := fun c => (body_step m hT c).loose) (hne := (launch0 (F := F)).block_pos) (harr := (launch0 (F := F)).arr_whole) (hstage := (launch0 (F := F)).stage_whole)
    (howed := fun _ _ => rfl) (u₀ := u₀ m) (hu₀ := BI.Entails.refl _)
    (V := V m) (hmain := main_step m)
    (hsplit := fun c => Pipeline.arrays_split (Pipeline.pin (pcfgs (F := F)) fun _ => adm m) (dats m) 0 (launch0 (F := F)).win.arr_inj c (launch0 (F := F)).arr_whole
      (shares m c) (V m c) _ fun _ => rfl)
    (hpf := fun c k => by rw [dev_eq c]; rfl)
    (X := fun _ => iprop(emp)) (Y := fun _ => iprop(emp))
    (Z := fun c => Pipeline.unscopedRestP pre0 spec0 c (V m c))
    (hX := fun c => by iintro H; isplitr; · iempintro
                       iexact H)
    (hin := fun c => by
      show iprop(emp ∗ Pipeline.prefHeld pre0 c (fun _ => fullShare.right) (adm m).1 ∗ Pipeline.scopedRest spec0 c) ⊢ inv m c 0
      rw [scopedRest0_eq c]
      unfold inv
      rw [if_pos rfl]
      rw [show (Pipeline.prefHeld pre0 c (fun _ => fullShare.right) (adm m).1 : sProp 𝕄) = tabPts (F := F) c (tab m) from by
        unfold Pipeline.prefHeld
        rw [show (Finset.univ : Finset (Fin 1)) = {0} from by decide, bigSep_singleton]
        rfl]
      iintro ⟨-, HT, HA, HB⟩
      isplitl [HT]; · iexact HT
      isplitl [HB]; · iexact HB
      iexact HA)
    (hout := fun c => by
      show inv m c grid0.N ⊢ iprop(emp ∗ Pipeline.scopedRest spec0 c)
      rw [scopedRest0_eq c]
      unfold inv
      rw [if_neg (show grid0.N ≠ 0 by rw [N_0]; decide)]
      iintro ⟨-, HB, HA⟩
      isplitr; · iempintro
      isplitl [HA]
      · iexists _; iexact HA
      · iexact HB)
    (QY := Rest m)
    (hY := fun c s' => by
      rw [unscopedRestP0_eq]
      iintro ⟨-, ⟨H1, H2, H3, H4, -, -, -, -, -, -, -, -, -, -, -, -, -, -, -, -, H11, H12⟩, HSI⟩
      icombine HSI H1 gives %h1
      icombine HSI H2 gives %h2
      icombine HSI H3 gives %h3
      icombine HSI H4 gives %h4
      icombine HSI H11 gives %h11
      icombine HSI H12 gives %h12
      imodintro
      isplitr
      · ipureintro
        exact ⟨Buf.eq_of_forall_mem_univ h1, Buf.eq_of_forall_mem_univ h2, Buf.eq_of_forall_mem_univ h3, Buf.eq_of_forall_mem_univ h4,
          Buf.eq_of_forall_mem_univ h11, Buf.eq_of_forall_mem_univ h12⟩
      iexact HSI)
    (hQ := fun s h hz => ⟨fun c => ⟨(h c).1, (h c).2.2⟩, hz⟩)

end Cert.KernelIdeal.Hand

end
-- ==== Proof.Table.lean ====
/-
  The table's words, read off the operations that make it: the starts of the segments, and each
  block's first and last segment.
-/
module

public import proofs.«01_k».proof.Proof.Data
public import Idealize.ShloMosaic.Lib.StableHlo.Predicate
public import Idealize.ShloMosaic.Lib.Routing.Ops
public import Idealize.ShloMosaic.Lib.Pipeline.Value

@[expose] public section

set_option maxRecDepth 16384

noncomputable section

namespace Cert.KernelIdeal.Hand

open Cert.KernelIdeal Cert.KernelIdeal.Gen

open Idealize.ShloMosaic
open Idealize.ShloMosaic.TcCoe
open Idealize.ShloMosaic.ValueIdx

variable {F : FTy → Type} [FloatOps F]

variable (m : (ℓ : Loc nD τ sig) → Buf (Elt F) ℓ)

/-! ### The operations' results -/

/-- The starts, as the operations compute them from the segment words. -/
def startsOf (b : IVec S320000 32) : IVec S1025 32 :=
  Host.reduce IntOp.addi
    (extui 32 (cmpi .slt (broadcastInDim S320000x1025 ![0, 1] bcast_S320000x1_S320000x1025_0_1 (broadcastInDim S320000x1 ![0] bcast_S320000_S320000x1_0 b))
      (broadcastInDim S320000x1025 ![0, 1] bcast_S1x1025_S320000x1025_0_1 (broadcastInDim S1x1025 ![1] bcast_S1025_S1x1025_1 (iotaInDim S1025 32 0)))) natLt_1_32)
    (constantI S_ 32 0#32) reducesTo_S320000x1025_S1025_d0 h_S_

/-- The table's three pieces. -/
abbrev pieces (b : IVec S320000 32) : List ((s : Shape) × (s.Idx → BitVec 32)) :=
  [⟨S1025, startsOf b⟩, ⟨S100, Host.slice S100 ![0] ![3200] b slicesBy_S320000_S100_0s3200⟩,
    ⟨S100, Host.slice S100 ![3199] ![3200] b slicesBy_S320000_S100_3199s3200⟩]

/-- The table of segment words `b`. -/
def tabOf (b : IVec S320000 32) : IVec S1225 32 := concatenate S1225 0 (pieces b) concatenates_S1025_S100_S100_S1225_d0

/-- The buffers after the second stretch, where the starts are. -/
theorem V_starts (c : Dev nD) :
    StableHlo.after hostOps0_1 (StableHlo.after hostOps0 (V₀ m c)) (Proc.devRef .tc main_v1) = startsOf (m ((c : Thread nD τ).loc main_arg2)) := by
  after_results
  simp only [StableHlo.TRef.ofBuf_toBuf]
  unfold startsOf
  simp -implicitDefEqProofs only [StableHlo.TRef.toBuf, StableHlo.TRef.ofBuf, cast_eq]

/-- The first two stretches leave the arguments alone. -/
theorem V_arg (c : Dev nD) (b : Ref sig .tc) (hb : b = main_arg0 ∨ b = main_arg1 ∨ b = main_arg2 ∨ b = main_arg3 ∨ b = main_arg4) :
    StableHlo.after hostOps0_1 (StableHlo.after hostOps0 (V₀ m c)) (Proc.devRef .tc b) = m ((c : Thread nD τ).loc b) := by
  rcases hb with rfl | rfl | rfl | rfl | rfl <;> (after_results; try rfl)

/-- All three do. -/
theorem V_args (c : Dev nD) (b : Ref sig .tc) (hb : b = main_arg0 ∨ b = main_arg1 ∨ b = main_arg2 ∨ b = main_arg3 ∨ b = main_arg4) :
    V m c b = m ((c : Thread nD τ).loc b) := by
  refine Eq.trans ?_ (V_arg m c b hb)
  unfold V Vv
  generalize StableHlo.after hostOps0_1 (StableHlo.after hostOps0 (V₀ m c)) = W
  rcases hb with rfl | rfl | rfl | rfl | rfl <;> (after_results; try rfl)

theorem V_table (c : Dev nD) : V m c main_v4 = tabOf (m ((c : Thread nD τ).loc main_arg2)) := by
  have h1 := V_starts m c
  have h2 := V_arg m c main_arg2 (by simp)
  unfold V Vv
  revert h1 h2
  generalize StableHlo.after hostOps0_1 (StableHlo.after hostOps0 (V₀ m c)) = W
  intro h1 h2
  unfold tabOf pieces
  rw [← h1, ← h2]
  after_results
  rfl

/-- The first weight, the first 128 rows of the weights; -/
theorem V_wx (c : Dev nD) : V m c main_v5 = extractStridedSlice S128x128 ![0, 0] (m ((c : Thread nD τ).loc main_arg3)) slices_S131x128_S128x128_0_0 := by
  have h2 := V_arg m c main_arg3 (by simp)
  unfold V Vv
  revert h2
  generalize StableHlo.after hostOps0_1 (StableHlo.after hostOps0 (V₀ m c)) = W
  intro h2
  rw [← h2]
  after_results

/-- the positions with a column of ones; -/
theorem V_pos (c : Dev nD) : V m c main_v7 = concatenate S320000x4 1 [⟨S320000x3, m ((c : Thread nD τ).loc main_arg1)⟩,
    ⟨S320000x1, broadcastInDim S320000x1 ![] bcast_S_S320000x1 (constant (F := F) S_ .f32 0x3F800000#32)⟩] concatenates_S320000x3_S320000x1_S320000x4_d1 := by
  have h2 := V_arg m c main_arg1 (by simp)
  unfold V Vv
  revert h2
  generalize StableHlo.after hostOps0_1 (StableHlo.after hostOps0 (V₀ m c)) = W
  intro h2
  rw [← h2]
  after_results

/-- the last 3 rows of the weights over the bias; -/
theorem V_wp (c : Dev nD) : V m c main_v10 = concatenate S4x128 0 [⟨S3x128, extractStridedSlice S3x128 ![128, 0] (m ((c : Thread nD τ).loc main_arg3)) slices_S131x128_S3x128_128_0⟩,
    ⟨S1x128, shapeCast S1x128 (m ((c : Thread nD τ).loc main_arg4)) shapeCasts_S128_S1x128⟩] concatenates_S3x128_S1x128_S4x128_d0 := by
  have h2 := V_arg m c main_arg3 (by simp)
  have h3 := V_arg m c main_arg4 (by simp)
  unfold V Vv
  revert h2 h3
  generalize StableHlo.after hostOps0_1 (StableHlo.after hostOps0 (V₀ m c)) = W
  intro h2 h3
  rw [← h2, ← h3]
  after_results
  try rfl

/-- the second result, zeros, and the third, the segments' numbers. -/
theorem V_zeros (c : Dev nD) : V m c main_v11 = broadcastInDim S1024x3 ![] bcast_S_S1024x3 (constant (F := F) S_ .f32 0x00000000#32) := by
  unfold V Vv
  generalize StableHlo.after hostOps0_1 (StableHlo.after hostOps0 (V₀ m c)) = W
  after_results
theorem V_iota (c : Dev nD) : V m c main_v12 = iotaInDim S1024 32 0 := by
  unfold V Vv
  generalize StableHlo.after hostOps0_1 (StableHlo.after hostOps0 (V₀ m c)) = W
  after_results

/-! ### The table at an index -/

/-- The segment of row `r`, as a number (0 past the rows). -/
def seg (b : IVec S320000 32) (r : ℕ) : ℕ := if h : r < 320000 then (b (ix1 ⟨r, h⟩)).toNat else 0

/-- The number of rows of segments below `s`. -/
def below (b : IVec S320000 32) (s : ℕ) : ℕ := (Finset.univ.filter fun p : Fin 320000 => seg b p.val < s).card

/-- The segments are in range and in order. -/
structure Sorted (b : IVec S320000 32) : Prop where
  lt : ∀ r < 320000, seg b r < 1024
  mono : ∀ r r', r ≤ r' → r' < 320000 → seg b r ≤ seg b r'

theorem below_le (b : IVec S320000 32) (s : ℕ) : below b s ≤ 320000 := by
  unfold below
  refine (Finset.card_le_univ _).trans ?_
  rw [Fintype.card_fin]

theorem below_mono (b : IVec S320000 32) {s s' : ℕ} (h : s ≤ s') : below b s ≤ below b s' := by
  unfold below
  refine Finset.card_le_card fun p hp => ?_
  rw [Finset.mem_filter] at hp ⊢
  exact ⟨hp.1, hp.2.trans_le h⟩

/-- A row is before the start of segment `s` exactly when its segment is below `s`. -/
theorem lt_below {b : IVec S320000 32} (hb : Sorted b) (s r : ℕ) (hr : r < 320000) : r < below b s ↔ seg b r < s := by
  constructor
  · intro h
    refine Classical.byContradiction fun hc => ?_
    have hsub : (Finset.univ.filter fun p : Fin 320000 => seg b p.val < s) ⊆ Finset.univ.filter fun p : Fin 320000 => p.val < r := by
      intro p hp
      rw [Finset.mem_filter] at hp ⊢
      refine ⟨hp.1, Classical.byContradiction fun hpr => hc ?_⟩
      exact (hb.mono r p.val (Nat.le_of_not_lt hpr) p.isLt).trans_lt hp.2
    have h1 := Finset.card_le_card hsub
    have h2 : (Finset.univ.filter fun p : Fin 320000 => p.val < r).card = r := by
      rw [Fin.card_filter_val_lt]; omega
    unfold below at h
    omega
  · intro h
    have hsub : (Finset.univ.filter fun p : Fin 320000 => p.val < r + 1) ⊆ Finset.univ.filter fun p : Fin 320000 => seg b p.val < s := by
      intro p hp
      rw [Finset.mem_filter] at hp ⊢
      exact ⟨hp.1, (hb.mono p.val r (by omega) hr).trans_lt h⟩
    have h1 := Finset.card_le_card hsub
    have h2 : (Finset.univ.filter fun p : Fin 320000 => p.val < r + 1).card = r + 1 := by
      rw [Fin.card_filter_val_lt]; omega
    unfold below
    omega

theorem startsOf_at {b : IVec S320000 32} (hb : Sorted b) (s : Fin 1025) : (startsOf b (ix1 s)).toNat = below b s.val := by
  unfold startsOf
  refine (StableHlo.Predicate.toNat_reduce_count_rows (n := 320000) (m := 1025) (by decide) _ natLt_1_32 reducesTo_S320000x1025_S1025_d0 h_S_ (ix1 s)).trans ?_
  unfold below
  refine congrArg Finset.card (Finset.filter_congr fun p _ => ?_)
  rw [Routing.ij_eq_ix2]
  have e : cmpi .slt (broadcastInDim S320000x1025 ![0, 1] bcast_S320000x1_S320000x1025_0_1 (broadcastInDim S320000x1 ![0] bcast_S320000_S320000x1_0 b))
      (broadcastInDim S320000x1025 ![0, 1] bcast_S1x1025_S320000x1025_0_1 (broadcastInDim S1x1025 ![1] bcast_S1025_S1x1025_1 (iotaInDim S1025 32 0))) (ix2 p s)
      = IntOp.cmpi .slt (b (ix1 p)) (BitVec.ofNat 32 s.val) := by
    unfold cmpi
    rw [Routing.bcRows (n := 320000) (m := 1025), Routing.bcCols (n := 320000) (m := 1025)]
    rfl
  have hs := s.isLt
  have hlt := hb.lt p.val p.isLt
  unfold seg at hlt ⊢
  rw [dif_pos p.isLt] at hlt ⊢
  change (b (ix1 p)).toNat < 1024 at hlt
  have hn : (BitVec.ofNat 32 s.val).toNat = s.val := by rw [BitVec.toNat_ofNat, Nat.mod_eq_of_lt (by omega)]
  refine (Eq.congr e rfl).trans ((StableHlo.Predicate.slt_iff_toNat (by omega) (by omega)).trans ?_)
  rw [hn]

/-- The table's first 1025 words are the starts; -/
theorem tw_start {b : IVec S320000 32} (hb : Sorted b) (s : ℕ) (hs : s < 1025) : (tw (tabOf b) s).toNat = below b s := by
  rw [← startsOf_at hb ⟨s, hs⟩]
  unfold tw
  rw [dif_pos (by omega)]
  refine congrArg BitVec.toNat ?_
  unfold tabOf
  refine concatenate_apply_piece (t := S1225) 0 (pieces b) concatenates_S1025_S100_S100_S1225_d0 _ 0 (show 0 < 3 by decide) S1025 (startsOf b) rfl rfl 0 (by simp) (ix1 ⟨s, hs⟩) ?_ ?_
  · intro b hb; exact absurd (Fin.ext (by have := b.isLt; change b.val < 1 at this; show b.val = 0; omega)) hb
  · show 0 + s = s; omega

/-- the next hundred the blocks' first segments; -/
theorem tw_first (b : IVec S320000 32) (n : ℕ) (hn : n < 100) : (tw (tabOf b) (1025 + n)).toNat = seg b (3200 * n) := by
  unfold tw seg
  rw [dif_pos (by omega), dif_pos (by omega)]
  refine congrArg BitVec.toNat ?_
  unfold tabOf
  refine (concatenate_apply_piece (t := S1225) 0 (pieces b) concatenates_S1025_S100_S100_S1225_d0 _ 1 (show 1 < 3 by decide) S100 (Host.slice S100 ![0] ![3200] b slicesBy_S320000_S100_0s3200)
    rfl rfl 1025 rfl (ix1 ⟨n, hn⟩) ?_ ?_).trans ?_
  · intro b hb; exact absurd (Fin.ext (by have := b.isLt; change b.val < 1 at this; show b.val = 0; omega)) hb
  · rfl
  · unfold Host.slice
    refine congrArg b (funext fun a => Fin.ext ?_)
    fin_cases a
    show 0 + 3200 * n = 3200 * n
    omega

/-- and the last hundred their last segments. -/
theorem tw_last (b : IVec S320000 32) (n : ℕ) (hn : n < 100) : (tw (tabOf b) (1125 + n)).toNat = seg b (3200 * n + 3199) := by
  unfold tw seg
  rw [dif_pos (by omega), dif_pos (by omega)]
  refine congrArg BitVec.toNat ?_
  unfold tabOf
  refine (concatenate_apply_piece (t := S1225) 0 (pieces b) concatenates_S1025_S100_S100_S1225_d0 _ 2 (show 2 < 3 by decide) S100 (Host.slice S100 ![3199] ![3200] b slicesBy_S320000_S100_3199s3200)
    rfl rfl 1125 rfl (ix1 ⟨n, hn⟩) ?_ ?_).trans ?_
  · intro b hb; exact absurd (Fin.ext (by have := b.isLt; change b.val < 1 at this; show b.val = 0; omega)) hb
  · rfl
  · unfold Host.slice
    refine congrArg b (funext fun a => Fin.ext ?_)
    fin_cases a
    show 3199 + 3200 * n = 3200 * n + 3199
    omega

/-- Sorted segments make a good table. -/
theorem goodTab {b : IVec S320000 32} (hb : Sorted b) : GoodTab (tabOf b) where
  segs n hn := by
    have h1 := hb.mono (3200 * n) (3200 * n + 3199) (by omega) (by omega)
    have h2 := hb.lt (3200 * n + 3199) (by omega)
    constructor
    · rw [tw_first b n hn, tw_last b n hn]; exact h1
    · rw [tw_last b n hn]; omega
  rows n hn s h1 h2 := by
    rw [tw_first b n hn] at h1
    rw [tw_last b n hn] at h2
    have h3 := hb.lt (3200 * n + 3199) (by omega)
    have hs := tw_start hb s (by omega)
    have he := tw_start hb (s + 1) (by omega)
    have ha := (not_congr (lt_below hb s (3200 * n + 3199) (by omega))).mpr (by omega)
    have hc := (lt_below hb (s + 1) (3200 * n) (by omega)).mpr (by omega)
    have hd := below_le b (s + 1)
    have hf := below_mono b (show s ≤ s + 1 by omega)
    constructor <;> omega

/-- So the run's table is good when the segment words are sorted. -/
theorem goodTab_run (hb : Sorted (m (((0 : Dev nD) : Thread nD τ).loc main_arg2))) : GoodTab (tab m) := by
  have e : tab m = tabOf (m (((0 : Dev nD) : Thread nD τ).loc main_arg2)) := V_table m 0
  rw [e]
  exact goodTab hb

end Cert.KernelIdeal.Hand

end
-- ==== Proof.Pre.lean ====
/-
  The precondition, decoded: the segment words are in range and in order.
-/
module

public import proofs.«01_k».proof.Proof.Table
public import proofs.«01_k».proof.Proof.Gen.Pre_sorted_ids

@[expose] public section

set_option maxRecDepth 16384

noncomputable section

namespace Cert.KernelIdeal.Hand

open Idealize.ShloMosaic
open Idealize.ShloMosaic.ValueIdx

variable {F : FTy → Type} [FloatOps F]

/-- A word at least 0 and below 1024, read signed, is below 1024. -/
theorem word_range {w : BitVec 32} (h0 : IntOp.cmpi .sge w 0#32 = 1#1) (h1 : IntOp.cmpi .slt w 1024#32 = 1#1) : w.toNat < 1024 := by
  have e0 : (0#32).sle w = true := (StableHlo.Predicate.ofBool_eq_one_iff _).mp h0
  have e1 : w.slt 1024#32 = true := (StableHlo.Predicate.ofBool_eq_one_iff _).mp h1
  rw [BitVec.sle_eq_decide, decide_eq_true_eq] at e0
  rw [BitVec.slt_eq_decide, decide_eq_true_eq] at e1
  have ha : (0#32).toInt = 0 := by decide
  have hb : (1024#32).toInt = 1024 := by decide
  have hw := BitVec.toInt_eq_toNat_cond w
  have hl := w.isLt
  rw [ha] at e0
  rw [hb] at e1
  split at hw <;> omega

theorem andi_one {a b : BitVec 1} (h : IntOp.andi a b = 1#1) : a = 1#1 ∧ b = 1#1 := by
  revert a b; decide

/-- What the precondition says of the segment words. -/
theorem sorted_of_pre (a0 : FVec F Pre_sorted_ids.S320000x128 .f32) (a1 : FVec F Pre_sorted_ids.S320000x3 .f32) (b : IVec Pre_sorted_ids.S320000 32)
    (a3 : FVec F Pre_sorted_ids.S131x128 .f32) (a4 : FVec F Pre_sorted_ids.S128 .f32)
    (h : Pre_sorted_ids.fn a0 a1 b a3 a4 = fun _ => 1#1) : Sorted b := by
  have key : ∀ r (hr : r < 320000), (b (ix1 ⟨r, hr⟩)).toNat < 1024
      ∧ ∀ k (hk : k + 1 = r), (b (ix1 ⟨k, by omega⟩)).toNat ≤ (b (ix1 ⟨r, hr⟩)).toNat := by
    have all : ∀ r (hr : r < 320000), (b (ix1 ⟨r, hr⟩)).toNat < 1024 := fun r hr => by
      have hx := congrFun h (ix1 ⟨r, hr⟩)
      obtain ⟨h1, -⟩ := andi_one hx
      obtain ⟨h3, h4⟩ := andi_one h1
      exact word_range h3 h4
    intro r hr
    refine ⟨all r hr, fun k hk => ?_⟩
    have hx := congrFun h (ix1 ⟨r, hr⟩)
    obtain ⟨-, h2⟩ := andi_one hx
    have e : concatenate Pre_sorted_ids.S320000 0
        [⟨Pre_sorted_ids.S1, extractStridedSlice Pre_sorted_ids.S1 ![0] b Pre_sorted_ids.Facts.slices_S320000_S1_0⟩,
          ⟨Pre_sorted_ids.S319999, extractStridedSlice Pre_sorted_ids.S319999 ![0] b Pre_sorted_ids.Facts.slices_S320000_S319999_0⟩]
        Pre_sorted_ids.Facts.concatenates_S1_S319999_S320000_d0 (ix1 ⟨r, hr⟩) = b (ix1 ⟨k, by omega⟩) := by
      refine (concatenate_pair_apply_right (t := Pre_sorted_ids.S320000) (s₁ := Pre_sorted_ids.S1) (s₂ := Pre_sorted_ids.S319999) 0 _ _ _ _ rfl rfl
        (ix1 ⟨k, by omega⟩) ?_ ?_).trans ?_
      · intro b hb; exact absurd (Fin.ext (by have := b.isLt; change b.val < 1 at this; show b.val = 0; omega)) hb
      · show k + 1 = r; exact hk
      · refine extractStridedSlice_apply _ _ _ _ _ fun a => ?_
        fin_cases a
        show k = 0 + k
        omega
    have h2' : IntOp.cmpi .sle (b (ix1 ⟨k, by omega⟩)) (b (ix1 ⟨r, hr⟩)) = 1#1 := by
      rw [← e]; exact h2
    exact (StableHlo.Predicate.sle_iff_toNat (by have := all k (by omega); omega) (by have := all r hr; omega)).mp h2'
  constructor
  · intro r hr
    unfold seg
    rw [dif_pos hr]
    exact (key r hr).1
  · intro r r' hrr
    induction r', hrr using Nat.le_induction with
    | base => intro _; exact le_rfl
    | succ n hn ih =>
      intro hlt
      refine (ih (by omega)).trans ?_
      unfold seg
      rw [dif_pos hlt, dif_pos (show n < 320000 by omega)]
      exact (key (n + 1) hlt).2 n rfl

end Cert.KernelIdeal.Hand

end
-- ==== Proof.Frame.lean ====
/-
  The program's run under its precondition: it ends, its arguments unchanged and every counter at
  zero, its results what the run computes.
-/
module

public import proofs.«01_k».proof.Proof.Run
public import proofs.«01_k».proof.Proof.Pre

@[expose] public section

set_option maxRecDepth 16384

noncomputable section

namespace Cert.KernelIdeal.Hand

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- The pooled rows after the run. -/
def pooled (c : Dev nD) : Buf (Elt F) ((c : Thread nD τ).loc main_v13) := (dats m 0 c).arrAt 4 grid0.N

/-- The run, from sorted segment words: the three results, the arguments unchanged, every counter at zero. -/
theorem run_sorted (hb : Sorted (m (((0 : Dev nD) : Thread nD τ).loc main_arg2))) :
    θ_run (defs (F := F)) (onTc (τ := τ) (main (F := F))) ⟨m, fun _ => 0, ρ⟩ fun r =>
      (∀ c : Dev nD, r.2.mem ((c : Thread nD τ).loc main_v13) = pooled m c
        ∧ r.2.mem ((c : Thread nD τ).loc main_v11) = broadcastInDim S1024x3 ![] bcast_S_S1024x3 (constant (F := F) S_ .f32 0x00000000#32)
        ∧ r.2.mem ((c : Thread nD τ).loc main_v12) = iotaInDim S1024 32 0
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0 := by
  refine (θ_run _ _ _).mono (fun r h => ⟨fun c => ?_, h.2⟩) (run_main m ρ (goodTab_run m hb))
  obtain ⟨hw, h1, h2, h3, h4, h11, h12⟩ := h.1 c
  refine ⟨hw 4, h11.trans (V_zeros m c), h12.trans (V_iota m c), ?_, h1.trans (V_args m c main_arg1 (by simp)),
    h2.trans (V_args m c main_arg2 (by simp)), h3.trans (V_args m c main_arg3 (by simp)), h4.trans (V_args m c main_arg4 (by simp))⟩
  exact ((hw 0).trans ((dats m 0 c).arrAt_in 0 rfl _)).trans (V_args m c main_arg0 (by simp))

end Cert.KernelIdeal.Hand

end
-- ==== Proof.Max.lean ====
/-
  The kernel's maxima at the ideal instance, each by the upper bounds it has: a maximum is below `z`
  exactly when each of the values it runs over is.
-/
module

public import proofs.«01_k».proof.Proof.Body
public import proofs.«01_k».proof.Proof.Table
public import Idealize.ShloMosaic.Lib.Pipeline.Value
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen

open Idealize.ShloMosaic
open Idealize.ShloMosaic.TcCoe
open Idealize.ShloMosaic.ValueIdx
open Idealize.ShloMosaic.StableHlo.Predicate

/-! ### Literals -/

theorem lit_zero : (FloatOps.ofBits .f32 0x00000000#32 : Ideal .f32) = (0 : EReal) := Ideal.ofBits_zero_f32
theorem lit_bot : (FloatOps.ofBits .f32 0xFF800000#32 : Ideal .f32) = (⊥ : EReal) := by
  show Ideal.ofBits .f32 0xFF800000#32 = ⊥
  simp [Ideal.ofBits, Ideal.ieee]

/-! ### One chunk -/

/-- The chunk's row `n`, if the segment's rows hold it. -/
def rowVal (a b row : ℕ) (v : Vec Ideal S32x128 .f32) (n : ℕ) (hn : n < 32) (l : Fin 128) : EReal :=
  if a ≤ row + n ∧ row + n < b then v (ix2 ⟨n, hn⟩ l) else 0

variable {i : grid0.Coords} {s e : BitVec 32}

/-- The mask of a chunk's row. -/
theorem mask_row (h : RowsOK (i 0).val s e) (k : Fin (k0_t2_loop i s e).trips) (n : ℕ) (hn : n < 32) (lb : BitVec 32)
    (hlb : lb = (k0_t2_loop i s e).lb) :
    IntOp.andi (IntOp.cmpi .sge (IntOp.addi (Scalar.muli (Scf.iv lb 1#32 k) 32#32) (BitVec.ofNat 32 n)) (loW i s))
        (IntOp.cmpi .slt (IntOp.addi (Scalar.muli (Scf.iv lb 1#32 k) 32#32) (BitVec.ofNat 32 n)) (hiW i e)) = 1#1
      ↔ lo (i 0).val s ≤ 32 * (lo (i 0).val s / 32 + k.val) + n ∧ 32 * (lo (i 0).val s / 32 + k.val) + n < hi (i 0).val e := by
  subst hlb
  have h1 := h.lo_le
  have h2 := h.hi_le
  have hr := h.row_le k
  have er : (Scalar.muli (Scf.iv (k0_t2_loop i s e).lb 1#32 k) 32#32).toNat = 32 * (lo (i 0).val s / 32 + k.val) :=
    Affine.nat_eq (h.row k) _ (by push_cast; omega)
  have ea : (IntOp.addi (Scalar.muli (Scf.iv (k0_t2_loop i s e).lb 1#32 k) 32#32) (BitVec.ofNat 32 n)).toNat
      = 32 * (lo (i 0).val s / 32 + k.val) + n := by
    show (_ + _ : BitVec 32).toNat = _
    rw [BitVec.toNat_add, er, BitVec.toNat_ofNat, Nat.mod_eq_of_lt (show n < 2 ^ 32 by omega), Nat.mod_eq_of_lt (by omega)]
  have el : (loW i s).toNat = lo (i 0).val s := Affine.nat_eq h.isLo _ rfl
  have eh : (hiW i e).toNat = hi (i 0).val e := Affine.nat_eq h.isHi _ rfl
  have c1 := sge_iff_toNat (a := IntOp.addi (Scalar.muli (Scf.iv (k0_t2_loop i s e).lb 1#32 k) 32#32) (BitVec.ofNat 32 n)) (b := loW i s) (by omega) (by omega)
  have c2 := slt_iff_toNat (a := IntOp.addi (Scalar.muli (Scf.iv (k0_t2_loop i s e).lb 1#32 k) 32#32) (BitVec.ofNat 32 n)) (b := hiW i e) (by omega) (by omega)
  rw [ea, el] at c1
  rw [ea, eh] at c2
  rw [← c1, ← c2]
  generalize IntOp.cmpi .sge _ (loW i s) = p
  generalize IntOp.cmpi .slt _ (hiW i e) = q
  revert p q
  decide

/-- The maximum over the four rows of a sublane. -/
theorem max4_le (x : FVec Ideal S4x8x128 .f32) (hφ : FKind.Formats .f32) (hacc : (0xFF800000#32 : BitVec 32) = FKind.maximumf.neutral .f32 hφ)
    (q : Fin 8) (l : Fin 128) (z : EReal) :
    (multiReduction .maximumf [0] S8x128 x 0xFF800000#32 reduces_S4x8x128_S8x128 hφ hacc (ix2 q l) : EReal) ≤ z ↔ ∀ j : Fin 4, (x (ix3 j q l) : EReal) ≤ z := by
  rw [Ideal.multiReduction_maximumf_single, Finset.fold_max_le, lit_bot]
  simp only [bot_le, true_and, Finset.mem_univ, forall_const, Function.comp]
  refine forall_congr' fun (j : Fin 4) => ?_
  rw [show reduces_S4x8x128_S8x128.lift (ix2 q l) j = ix3 j q l from funext fun a => Fin.ext (by fin_cases a <;> rfl)]

/-- A chunk's element, as the mask's word selects it. -/
def maskVal (a b r : BitVec 32) (v : Vec Ideal S32x128 .f32) (n : Fin 32) (l : Fin 128) : EReal :=
  Scalar.select (IntOp.andi (IntOp.cmpi .sge (IntOp.addi r (BitVec.ofNat 32 n.val)) a) (IntOp.cmpi .slt (IntOp.addi r (BitVec.ofNat 32 n.val)) b))
    (v (ix2 n l) : EReal) 0

/-- The running maximum after a chunk, by the mask's words. -/
theorem pay4_mask (a b lb : BitVec 32) (k : Fin (k0_t2_loop i s e).trips) (g : FVec Ideal S8x128 .f32) (v : Vec Ideal S32x128 .f32)
    (q : Fin 8) (l : Fin 128) (z : EReal) :
    (k0_pay4 i s a e b lb k g v (ix2 q l) : EReal) ≤ z
      ↔ (g (ix2 q l) : EReal) ≤ z ∧ ∀ j : Fin 4, maskVal a b (Scalar.muli (Scf.iv lb 1#32 k) 32#32) v ⟨8 * j.val + q.val, by omega⟩ l ≤ z := by
  unfold k0_pay4
  refine max_le_iff.trans (and_congr_right fun _ => (max4_le _ _ _ q l z).trans (forall_congr' fun (j : Fin 4) => ?_))
  have hj := j.isLt
  rw [shapeCast_apply _ _ _ (ix2 (⟨8 * j.val + q.val, by omega⟩ : Fin 32) l) (by
    rw [Shape.rowMajor_val_two, Shape.rowMajor_val_three]
    show (8 * j.val + q.val) * 128 + l.val = (j.val * 8 + q.val) * 128 + l.val
    omega)]
  rw [select_apply, broadcastTo_apply _ _ _ (ix2 (⟨8 * j.val + q.val, by omega⟩ : Fin 32) (0 : Fin 1)) (by intro a; fin_cases a <;> rfl),
    shapeCast_apply _ _ _ (ix2 (⟨8 * j.val + q.val, by omega⟩ : Fin 32) (0 : Fin 1)) rfl, broadcast_apply]
  unfold maskVal
  rw [← lit_zero]
  refine iff_of_eq (congrArg (· ≤ z) ?_)
  have ei : iota .tc S32x1 32 [0] iota_S32x1_d0_w32 (ix2 (⟨8 * j.val + q.val, by omega⟩ : Fin 32) (0 : Fin 1)) = BitVec.ofNat 32 (8 * j.val + q.val) := by
    show BitVec.ofNat 32 (0 * 32 + (8 * j.val + q.val)) = _
    rw [Nat.zero_mul, Nat.zero_add]
  unfold andi cmpi addi
  rw [ei]
  rfl

/-- The running maximum after a chunk. -/
theorem pay4_le (h : RowsOK (i 0).val s e) (k : Fin (k0_t2_loop i s e).trips) (g : FVec Ideal S8x128 .f32) (v : Vec Ideal S32x128 .f32)
    (q : Fin 8) (l : Fin 128) (z : EReal) :
    (k0_pay4 i s (loW i s) e (hiW i e) (k0_t2_loop i s e).lb k g v (ix2 q l) : EReal) ≤ z
      ↔ (g (ix2 q l) : EReal) ≤ z ∧ ∀ j : Fin 4,
        rowVal (lo (i 0).val s) (hi (i 0).val e) (32 * (lo (i 0).val s / 32 + k.val)) v (8 * j.val + q.val) (by omega) l ≤ z := by
  rw [pay4_mask]
  refine and_congr_right fun _ => forall_congr' fun j => ?_
  have hm := mask_row h k (8 * j.val + q.val) (by omega) _ rfl
  refine iff_of_eq (congrArg (· ≤ z) ?_)
  unfold maskVal rowVal
  by_cases hc : lo (i 0).val s ≤ 32 * (lo (i 0).val s / 32 + k.val) + (8 * j.val + q.val) ∧ 32 * (lo (i 0).val s / 32 + k.val) + (8 * j.val + q.val) < hi (i 0).val e
  · rw [if_pos hc, hm.2 hc, select_one]
  · rw [if_neg hc, eq_zero_of_ne_one (mt hm.1 hc), select_zero]

/-! ### A segment's rows -/

/-- The running maximum after `k` chunks. -/
theorem chunkSt_le (h : RowsOK (i 0).val s e) (hw : k0_chk2 i s e) (h2 : k0_cond2 i = 1#1) (hb : Vec Ideal S3200x128 .f32)
    (q : Fin 8) (l : Fin 128) (z : EReal) (k : ℕ) (hk : k ≤ (k0_t2_loop i s e).trips) :
    (chunkSt i s e hw h2 hb k (ix2 q l) : EReal) ≤ z
      ↔ 0 ≤ z ∧ ∀ (r : ℕ) (hr : r < 3200), r % 8 = q.val → lo (i 0).val s ≤ r → r < hi (i 0).val e → r < 32 * (lo (i 0).val s / 32 + k)
        → (hb (ix2 ⟨r, hr⟩ l) : EReal) ≤ z := by
  induction k with
  | zero =>
    have e0 : (chunkSt i s e hw h2 hb 0 (ix2 q l) : EReal) = 0 := lit_zero
    rw [e0]
    refine (and_iff_left ?_).symm
    intro r _ _ h3 _ h5
    omega
  | succ k ih =>
    have ih := ih (by omega)
    have hr := h.row_le ⟨k, by omega⟩
    change 32 * (lo (i 0).val s / 32 + k) + 32 ≤ 3200 at hr
    rw [chunkSt, dif_pos (show k < (k0_t2_loop i s e).trips by omega), pay4_le h, ih]
    have hv : ∀ (n : ℕ) (hn : n < 32), (fun x => hb ((rC i s e hw h2 ⟨k, by omega⟩).emb x)) (ix2 ⟨n, hn⟩ l)
        = hb (ix2 ⟨32 * (lo (i 0).val s / 32 + k) + n, by omega⟩ l) := by
      intro n hn
      refine congrArg hb (funext fun a => Fin.ext ?_)
      rw [Rect.emb_apply]
      show k0_off4 i s e ⟨k, by omega⟩ a + 1 * _ = _
      rw [h.off4]
      fin_cases a
      · show 32 * (lo (i 0).val s / 32 + k) + 1 * n = _
        rw [Nat.one_mul]
      · show 0 + 1 * l.val = l.val
        omega
    constructor
    · rintro ⟨⟨h0, hold⟩, hnew⟩
      refine ⟨h0, fun r hr8 hq hlo hhi hlt => ?_⟩
      by_cases hc : r < 32 * (lo (i 0).val s / 32 + k)
      · exact hold r hr8 hq hlo hhi hc
      · have hx := hnew ⟨(r - 32 * (lo (i 0).val s / 32 + k)) / 8, by omega⟩
        have hq' := q.isLt
        unfold rowVal at hx
        rw [if_pos (by dsimp only; omega), hv] at hx
        refine le_of_eq_of_le ?_ hx
        refine congrArg hb (congrArg (fun y => ix2 y l) (Fin.ext ?_))
        dsimp only
        omega
    · rintro ⟨h0, hall⟩
      refine ⟨⟨h0, fun r hr8 hq hlo hhi hlt => hall r hr8 hq hlo hhi (by omega)⟩, fun j => ?_⟩
      unfold rowVal
      have hj := j.isLt
      have hq' := q.isLt
      split
      · next hc =>
        rw [hv]
        dsimp only at hc
        exact hall _ _ (by omega) (by omega) (by omega) (by omega)
      · exact h0

/-- A segment's maximum over its rows of a block, by sublane. -/
theorem segMax_le (h : RowsOK (i 0).val s e) (h2 : k0_cond2 i = 1#1) (hb : Vec Ideal S3200x128 .f32)
    (q : Fin 8) (l : Fin 128) (z : EReal) :
    (segMax i s e h2 hb (ix2 q l) : EReal) ≤ z
      ↔ 0 ≤ z ∧ ∀ (r : ℕ) (hr : r < 3200), r % 8 = q.val → lo (i 0).val s ≤ r → r < hi (i 0).val e → (hb (ix2 ⟨r, hr⟩ l) : EReal) ≤ z := by
  unfold segMax
  rw [dif_pos h.chk, chunkSt_le h h.chk h2 hb q l z _ le_rfl]
  have ht := h.t2_trips
  have h1 := h.lo_le
  have h3 := h.lo_le_hi
  unfold chunks at ht
  refine and_congr_right fun _ => ⟨fun ha r hr hq hlo hhi => ha r hr hq hlo hhi (by omega), fun ha r hr hq hlo hhi _ => ha r hr hq hlo hhi⟩

/-! ### The accumulators -/

/-- Row `8 s + q` of the accumulators. -/
abbrev accIx (s : ℕ) (q : Fin 8) (l : Fin 128) (hs : s < 1024) : S8192x128.Idx := ix2 ⟨8 * s + q.val, by omega⟩ l

/-- A store through a segment's rectangle changes that segment's rows alone. -/
theorem write_seg (a b : BitVec 32) (h : SegsOK a b) (hw : k0_chk1 i a b) (h2 : k0_cond2 i = 1#1) (k : Fin (k0_t1_loop a b).trips)
    (f : Vec Ideal S8192x128 .f32) (w : Vec Ideal S8x128 .f32) (t : ℕ) (ht : t < 1024) (q : Fin 8) (l : Fin 128) :
    ((Memref.whole cc0_scratch0).access (rA i a b hw h2 k) : View sig .tc _ _ _).write (Elt Ideal) f w Finset.univ (accIx t q l ht)
      = if t = a.toNat + k.val then w (ix2 q l) else f (accIx t q l ht) := by
  have ho := h.off6 k
  split
  · next hc =>
    have e : accIx t q l ht = ((Memref.whole cc0_scratch0).access (rA i a b hw h2 k) : View sig .tc _ _ _).emb (ix2 q l) := by
      refine funext fun c => Fin.ext ?_
      show _ = k0_off6 a b k c + 1 * _
      rw [ho]
      fin_cases c
      · show 8 * t + q.val = 8 * (a.toNat + k.val) + 1 * q.val
        omega
      · show l.val = 0 + 1 * l.val
        omega
    rw [e, View.write_emb_of_mem _ _ (Finset.mem_univ _)]
    rfl
  · next hc =>
    refine View.write_of_not_mem _ _ _ fun hm => hc ?_
    obtain ⟨x, -, hx⟩ := Finset.mem_map.1 hm
    have h0 : k0_off6 a b k 0 + 1 * (x 0).val = 8 * t + q.val := congrArg (fun y : S8192x128.Idx => (y 0).val) hx
    rw [ho] at h0
    change 8 * (a.toNat + k.val) + 1 * (x 0).val = _ at h0
    have hx0 : (x 0).val < 8 := (x 0).isLt
    have hq := q.isLt
    omega

/-- A segment's running maximum joined with its maximum over a block. -/
theorem pay6_le (x y : FVec Ideal S8x128 .f32) (q : Fin 8) (l : Fin 128) (z : EReal) :
    (k0_pay6 x y (ix2 q l) : EReal) ≤ z ↔ (y (ix2 q l) : EReal) ≤ z ∧ (x (ix2 q l) : EReal) ≤ z := by
  unfold k0_pay6
  refine (iff_of_eq (congrArg (· ≤ z) (shapeCast_apply _ _ _ (ix2 q l) rfl))).trans ?_
  exact max_le_iff

/-- The accumulators after `k` segments of a block. -/
theorem accSt_le {tab : IVec S1225 32} (hT : GoodTab tab) (h2 : k0_cond2 i = 1#1) (hw : k0_chk1 i (aW i h2 tab) (bW i h2 tab))
    (hb : Vec Ideal S3200x128 .f32) (acc : Vec Ideal S8192x128 .f32) (t : ℕ) (ht : t < 1024) (q : Fin 8) (l : Fin 128) (z : EReal)
    (k : ℕ) (hk : k ≤ (k0_t1_loop (aW i h2 tab) (bW i h2 tab)).trips) :
    (accSt i _ _ hw h2 tab hb acc k (accIx t q l ht) : EReal) ≤ z
      ↔ (acc (accIx t q l ht) : EReal) ≤ z ∧ ((aW i h2 tab).toNat ≤ t → t < (aW i h2 tab).toNat + k →
        0 ≤ z ∧ ∀ (r : ℕ) (hr : r < 3200), r % 8 = q.val → lo (i 0).val (tw tab t) ≤ r → r < hi (i 0).val (tw tab (t + 1)) → (hb (ix2 ⟨r, hr⟩ l) : EReal) ≤ z) := by
  induction k with
  | zero =>
    refine (and_iff_left ?_).symm
    intro h1 h3
    omega
  | succ k ih =>
    have ih := ih (by omega)
    have hkt : k < (k0_t1_loop (aW i h2 tab) (bW i h2 tab)).trips := by omega
    rw [accSt, dif_pos hkt, write_seg _ _ (hT.segsOK i h2)]
    by_cases hc : t = (aW i h2 tab).toNat + k
    · rw [if_pos hc, pay6_le, segMax_le (hT.rowsOK i h2 hw ⟨k, hkt⟩), hT.sW_eq i h2 hw ⟨k, hkt⟩, hT.eW_eq i h2 hw ⟨k, hkt⟩]
      have e : accSt i (aW i h2 tab) (bW i h2 tab) hw h2 tab hb acc k ((rA i (aW i h2 tab) (bW i h2 tab) hw h2 ⟨k, hkt⟩).emb (ix2 q l))
          = accSt i (aW i h2 tab) (bW i h2 tab) hw h2 tab hb acc k (accIx t q l ht) := by
        refine congrArg (accSt i (aW i h2 tab) (bW i h2 tab) hw h2 tab hb acc k) (funext fun c => Fin.ext ?_)
        rw [Rect.emb_apply]
        show k0_off6 (aW i h2 tab) (bW i h2 tab) ⟨k, hkt⟩ c + 1 * _ = _
        rw [(hT.segsOK i h2).off6]
        fin_cases c
        · show 8 * ((aW i h2 tab).toNat + k) + 1 * q.val = 8 * t + q.val
          omega
        · show 0 + 1 * l.val = l.val
          omega
      rw [e, ih]
      subst hc
      constructor
      · rintro ⟨⟨h1, -⟩, h3⟩
        exact ⟨h1, fun _ _ => h3⟩
      · rintro ⟨h1, h3⟩
        exact ⟨⟨h1, fun _ h => absurd h (by omega)⟩, h3 (by omega) (by omega)⟩
    · rw [if_neg hc, ih]
      refine and_congr_right fun _ => ⟨fun h h1 h3 => h h1 (by omega), fun h h1 h3 => h h1 (by omega)⟩

/-- The accumulators after a block of rows whose segments are sorted. -/
theorem accBlk_le {b : IVec S320000 32} (hs : Sorted b) (h2 : k0_cond2 i = 1#1)
    (hb : Vec Ideal S3200x128 .f32) (acc : Vec Ideal S8192x128 .f32) (t : ℕ) (ht : t < 1024) (q : Fin 8) (l : Fin 128) (z : EReal)
    (h0 : (acc (accIx t q l ht) : EReal) ≤ z → 0 ≤ z) :
    (accBlk i h2 (tabOf b) hb acc (accIx t q l ht) : EReal) ≤ z
      ↔ (acc (accIx t q l ht) : EReal) ≤ z ∧ ∀ (r : ℕ) (hr : r < 3200), r % 8 = q.val → seg b (3200 * (i 0).val + r) = t → (hb (ix2 ⟨r, hr⟩ l) : EReal) ≤ z := by
  have hT := goodTab hs
  have hi0 := (cond2_iff i).1 h2
  have hS := hT.segsOK i h2
  unfold accBlk
  rw [dif_pos (hS.chk i), accSt_le hT h2 _ hb acc t ht q l z _ le_rfl, hS.t1_trips]
  have ha : (aW i h2 (tabOf b)).toNat = seg b (3200 * (i 0).val) := by rw [aW_eq, tw_first b _ hi0]
  have hb' : (bW i h2 (tabOf b)).toNat = seg b (3200 * (i 0).val + 3199) := by rw [bW_eq, tw_last b _ hi0]
  have hab := hs.mono (3200 * (i 0).val) (3200 * (i 0).val + 3199) (by omega) (by omega)
  rw [ha, hb']
  have key : ∀ r < 3200, (lo (i 0).val (tw (tabOf b) t) ≤ r ∧ r < hi (i 0).val (tw (tabOf b) (t + 1))) ↔ seg b (3200 * (i 0).val + r) = t := by
    intro r hr
    have e1 := lt_below hs t (3200 * (i 0).val + r) (by omega)
    have e2 := lt_below hs (t + 1) (3200 * (i 0).val + r) (by omega)
    unfold lo hi
    rw [tw_start hs t (by omega), tw_start hs (t + 1) (by omega)]
    omega
  refine and_congr_right fun hacc => ?_
  constructor
  · intro h r hr hq hseg
    have m1 := hs.mono (3200 * (i 0).val) (3200 * (i 0).val + r) (by omega) (by omega)
    have m2 := hs.mono (3200 * (i 0).val + r) (3200 * (i 0).val + 3199) (by omega) (by omega)
    have hk := (key r hr).2 hseg
    exact (h (by omega) (by omega)).2 r hr hq hk.1 hk.2
  · intro h _ _
    exact ⟨h0 hacc, fun r hr hq h1 h3 => h r hr hq ((key r hr).1 ⟨h1, h3⟩)⟩

end Cert.KernelIdeal.Hand

end
-- ==== Proof.Value.lean ====
/-
  What the kernel's run leaves in its first result, by the upper bounds each element has: an element
  is below `z` exactly when zero is and each of the products of its segment's rows is.
-/
module

public import proofs.«01_k».proof.Proof.Max
public import proofs.«01_k».proof.Proof.Frame

@[expose] public section

set_option maxRecDepth 16384

noncomputable section

namespace Cert.KernelIdeal.Hand

open Cert.KernelIdeal Cert.KernelIdeal.Gen

open Idealize.ShloMosaic
open Idealize.ShloMosaic.TcCoe
open Idealize.ShloMosaic.ValueIdx
open Idealize.ShloMosaic.Pipeline (Dat)

variable (m : (ℓ : Loc nD τ sig) → Buf (Elt Ideal) ℓ) (c : Dev nD)

/-- The segment words. -/
abbrev segs : IVec S320000 32 := m (((0 : Dev nD) : Thread nD τ).loc main_arg2)

theorem tab_eq : tab m = tabOf (segs m) := V_table m 0

theorem N108 : grid0.N = 108 := N_0

/-- The product row `r` has in column `l`. -/
def hrow (r : ℕ) (hr : r < 320000) (l : Fin 128) : EReal :=
  (prodAt m c ⟨r / 3200, by rw [N108]; omega⟩ (ix2 ⟨r % 3200, Nat.mod_lt _ (by decide)⟩ l) : EReal)

theorem hrow_at (t : Fin grid0.N) (ht : t.val < 100) (r : ℕ) (hr : r < 3200) (l : Fin 128) :
    hrow m c (3200 * t.val + r) (by omega) l = (prodAt m c t (ix2 ⟨r, hr⟩ l) : EReal) := by
  unfold hrow
  have h1 : (⟨(3200 * t.val + r) / 3200, by have := N108; omega⟩ : Fin grid0.N) = t := Fin.ext (by show (3200 * t.val + r) / 3200 = t.val; omega)
  have h2 : (⟨(3200 * t.val + r) % 3200, Nat.mod_lt _ (by decide)⟩ : Fin 3200) = ⟨r, hr⟩ := Fin.ext (by show (3200 * t.val + r) % 3200 = r; omega)
  rw [h1, h2]

/-! ### The accumulators -/

theorem accAt_le (hs : Sorted (segs m)) (s : ℕ) (hs' : s < 1024) (q : Fin 8) (l : Fin 128) (z : EReal) (n : ℕ) (hn : n ≤ 100) :
    (accAt m c n (accIx s q l hs') : EReal) ≤ z
      ↔ 0 ≤ z ∧ ∀ (r : ℕ) (hr : r < 320000), r < 3200 * n → r % 8 = q.val → seg (segs m) r = s → hrow m c r hr l ≤ z := by
  induction n with
  | zero =>
    have e : (accAt m c 0 (accIx s q l hs') : EReal) = 0 := by
      show k0_pay1 (F := Ideal) (accIx s q l hs') = (0 : EReal)
      unfold k0_pay1
      rw [shapeCast_apply _ _ _ (accIx s q l hs') rfl, broadcast_apply]
      exact lit_zero
    rw [e]
    exact (and_iff_left fun r _ h => absurd h (by omega)).symm
  | succ n ih =>
    have ih := ih (by omega)
    have hN := N108
    have hv : ((grid0.coords ⟨n, by omega⟩) 0).val = n := coords_val ⟨n, by omega⟩
    have h2 : k0_cond2 (grid0.coords ⟨n, by omega⟩) = 1#1 := (cond2_iff _).2 (by rw [hv]; omega)
    rw [show accAt m c (n + 1) = _ from accAt_rows m c ⟨n, by omega⟩ h2, tab_eq, accBlk_le hs h2 _ _ s hs' q l z fun h => (ih.1 h).1]
    refine (and_congr_left fun _ => ih).trans ?_
    rw [and_assoc]
    refine and_congr_right fun _ => ?_
    constructor
    · rintro ⟨h3, h4⟩ r hr hlt hq hseg
      by_cases hc : r < 3200 * n
      · exact h3 r hr hc hq hseg
      · have h5 := h4 (r - 3200 * n) (by omega) (by omega) (by rw [hv, show 3200 * n + (r - 3200 * n) = r by omega]; exact hseg)
        have h6 := hrow_at m c ⟨n, by omega⟩ (by show n < 100; omega) (r - 3200 * n) (by omega) l
        rw [← h6] at h5
        have h7 : 3200 * n + (r - 3200 * n) = r := by omega
        simp only [h7] at h5
        exact h5
    · intro h
      refine ⟨fun r hr hlt hq hseg => h r hr (by omega) hq hseg, fun r hr hq hseg => ?_⟩
      rw [hv] at hseg
      rw [← hrow_at m c ⟨n, by omega⟩ (by show n < 100; omega) r hr l]
      exact h (3200 * n + r) (by omega) (by omega) (by omega) hseg

theorem accAt_last (t : Fin grid0.N) (ht : 100 ≤ t.val) : accAt m c t.val = accAt m c 100 := by
  have hN := N108
  have key : ∀ k, 100 + k < 108 → accAt m c (100 + k) = accAt m c 100 := by
    intro k
    induction k with
    | zero => intro _; rfl
    | succ k ih =>
      intro hk
      have h2 : k0_cond2 (grid0.coords ⟨100 + k, by omega⟩) ≠ 1#1 := fun h => by
        have h3 := (cond2_iff _).1 h
        rw [coords_val] at h3
        have h4 : 100 + k < 100 := h3
        omega
      exact (accAt_out m c ⟨100 + k, by omega⟩ h2).trans (ih (by omega))
  have := key (t.val - 100) (by have := t.isLt; omega)
  rwa [show 100 + (t.val - 100) = t.val by omega] at this

/-! ### The output blocks -/

/-- The maximum over the eight sublanes. -/
theorem max8_le (x : FVec Ideal S128x8x128 .f32) (hφ : FKind.Formats .f32) (hacc : (0xFF800000#32 : BitVec 32) = FKind.maximumf.neutral .f32 hφ)
    (p l : Fin 128) (z : EReal) :
    (multiReduction .maximumf [1] S128x128 x 0xFF800000#32 reduces_S128x8x128_S128x128 hφ hacc (ix2 p l) : EReal) ≤ z ↔ ∀ j : Fin 8, (x (ix3 p j l) : EReal) ≤ z := by
  rw [Ideal.multiReduction_maximumf_single, Finset.fold_max_le, lit_bot]
  simp only [bot_le, true_and, Finset.mem_univ, forall_const, Function.comp]
  refine forall_congr' fun (j : Fin 8) => ?_
  rw [show reduces_S128x8x128_S128x128.lift (ix2 p l) j = ix3 p j l from funext fun a => Fin.ext (by fin_cases a <;> rfl)]

theorem pay11_le (v : Vec Ideal S1024x128 .f32) (p l : Fin 128) (z : EReal) :
    (k0_pay11 v (ix2 p l) : EReal) ≤ z ↔ ∀ j : Fin 8, (v (ix2 ⟨8 * p.val + j.val, by omega⟩ l) : EReal) ≤ z := by
  unfold k0_pay11
  refine (max8_le _ _ _ p l z).trans (forall_congr' fun (j : Fin 8) => ?_)
  have hj := j.isLt
  rw [shapeCast_apply _ _ _ (ix2 (⟨8 * p.val + j.val, by omega⟩ : Fin 1024) l) (by
    rw [Shape.rowMajor_val_two, Shape.rowMajor_val_three]
    show (8 * p.val + j.val) * 128 + l.val = (p.val * 8 + j.val) * 128 + l.val
    omega)]

/-- The element of the result at segment `s`, column `l`. -/
def outRow (s : ℕ) (hs : s < 1024) (l : Fin 128) : EReal :=
  (outAt m c ⟨100 + s / 128, by rw [N108]; omega⟩ (ix2 ⟨s % 128, Nat.mod_lt _ (by decide)⟩ l) : EReal)

theorem outRow_le (hs : Sorted (segs m)) (s : ℕ) (hs' : s < 1024) (l : Fin 128) (z : EReal) :
    outRow m c s hs' l ≤ z ↔ 0 ≤ z ∧ ∀ (r : ℕ) (hr : r < 320000), seg (segs m) r = s → hrow m c r hr l ≤ z := by
  have hN := N108
  have hv : ((grid0.coords ⟨100 + s / 128, by omega⟩) 0).val = 100 + s / 128 := coords_val ⟨100 + s / 128, by omega⟩
  have h3 : k0_cond3 (grid0.coords ⟨100 + s / 128, by omega⟩) = 1#1 := (cond3_iff _).2 (by rw [hv]; omega)
  unfold outRow outAt
  rw [dif_pos h3]
  unfold outVal
  rw [pay11_le]
  have e : ∀ j : Fin 8, (Rect.unit (s := S8192x128) (k0_off12 (grid0.coords ⟨100 + s / 128, by omega⟩)) S1024x128.size (k0_off12_inb _ h3)).emb
      (ix2 (⟨8 * (s % 128) + j.val, by omega⟩ : Fin 1024) l) = accIx s j l hs' := by
    intro j
    refine funext fun a => Fin.ext ?_
    rw [Rect.emb_apply]
    have o0 : k0_off12 (grid0.coords ⟨100 + s / 128, by omega⟩) 0 = 1024 * (s / 128) := by
      rw [off12_eq _ (by rw [hv]; omega), hv, Nat.add_sub_cancel_left]; rfl
    have o1 : k0_off12 (grid0.coords ⟨100 + s / 128, by omega⟩) 1 = 0 := by
      rw [off12_eq _ (by rw [hv]; omega)]; rfl
    fin_cases a
    · show k0_off12 (grid0.coords ⟨100 + s / 128, by omega⟩) 0 + 1 * (8 * (s % 128) + j.val) = 8 * s + j.val
      omega
    · show k0_off12 (grid0.coords ⟨100 + s / 128, by omega⟩) 1 + 1 * l.val = l.val
      omega
  have e2 : ∀ j : Fin 8, (accAt m c (100 + s / 128) ((Rect.unit (s := S8192x128) (k0_off12 (grid0.coords ⟨100 + s / 128, by omega⟩)) S1024x128.size (k0_off12_inb _ h3)).emb
      (ix2 (⟨8 * (s % 128) + j.val, by omega⟩ : Fin 1024) l)) : EReal) ≤ z
      ↔ 0 ≤ z ∧ ∀ (r : ℕ) (hr : r < 320000), r < 3200 * 100 → r % 8 = j.val → seg (segs m) r = s → hrow m c r hr l ≤ z := fun j => by
    rw [e j, accAt_last m c ⟨100 + s / 128, by omega⟩ (by show 100 ≤ 100 + s / 128; omega)]
    exact accAt_le m c hs s hs' j l z 100 le_rfl
  refine (forall_congr' e2).trans ?_
  constructor
  · intro h
    exact ⟨(h 0).1, fun r hr hseg => (h ⟨r % 8, Nat.mod_lt _ (by decide)⟩).2 r hr hr rfl hseg⟩
  · rintro ⟨h0, h⟩ j
    exact ⟨h0, fun r hr _ _ hseg => h r hr hseg⟩

theorem idx4' (t : Fin grid0.N) : ((cfgA m).win 4).index t = ![t.val - 100, 0] := idx4 t

/-- Where an output block's element lies in the result. -/
def emb4 (t : Fin grid0.N) (y : S128x128.Idx) : S1024x128.Idx := (((cfgA m).win 4).rect t).emb y

theorem emb4_0 (t : Fin grid0.N) (y : S128x128.Idx) : (emb4 m t y 0).val = (t.val - 100) * 128 + (y 0).val := by
  refine (Pipeline.Window.rect_emb_val ((cfgA m).win 4) t y ⟨0, (by decide : 0 < 2)⟩ rfl).trans ?_
  rw [idx4']; rfl

theorem emb4_1 (t : Fin grid0.N) (y : S128x128.Idx) : (emb4 m t y 1).val = (y 1).val := by
  refine (Pipeline.Window.rect_emb_val ((cfgA m).win 4) t y ⟨1, (by decide : 1 < 2)⟩ rfl).trans ?_
  rw [idx4']
  show 0 * 128 + (y 1).val = _
  omega

theorem emb4_mem (t : Fin grid0.N) (y : S128x128.Idx) (j : S1024x128.Idx) (h : emb4 m t y = j) : j ∈ (((cfgA m).win 4).blk t).view.set :=
  h ▸ (((cfgA m).win 4).blk t).view.emb_mem_set y

/-- The result is those elements. -/
theorem pooled_eq : pooled m c = fun j : S1024x128.Idx => outRow m c (j 0).val (j 0).isLt (j 1) := by
  have hN := N108
  refine Dat.arrAt_eq_of_cover (dats m 0 c) 4 _ (fun t ht => ?_) fun (j : S1024x128.Idx) => ?_
  · rw [flush4, decide_eq_true_eq] at ht
    have htN : t.val < grid0.N := t.isLt
    refine funext fun (y : S128x128.Idx) => ?_
    have x0 := emb4_0 m t y
    have x1 := emb4_1 m t y
    have hx : emb4 m t y = (((cfgA m).win 4).rect t).emb y := rfl
    generalize emb4 m t y = x at x0 x1 hx
    have hy0 : (y 0).val < 128 := (y 0).isLt
    have e : (((cfgA m).win 4).blk t).view.read (Elt Ideal) (fun j : S1024x128.Idx => outRow m c (j 0).val (j 0).isLt (j 1)) y
        = outRow m c (x 0).val (x 0).isLt (x 1) := by
      rw [hx]
      rfl
    refine Eq.trans ?_ e.symm
    show outAt m c t y = _
    unfold outRow
    have e1 : (⟨100 + (x 0).val / 128, by omega⟩ : Fin grid0.N) = t := Fin.ext (by show 100 + _ / 128 = t.val; omega)
    have e2 : y = ix2 (⟨(x 0).val % 128, Nat.mod_lt _ (by decide)⟩ : Fin 128) (x 1) := by
      funext a
      fin_cases a
      · exact Fin.ext (show (y 0).val = (x 0).val % 128 by omega)
      · exact Fin.ext (show (y 1).val = (x 1).val by omega)
    rw [e1]
    exact congrArg (outAt m c t) e2
  · have hj0 : (j 0).val < 1024 := (j 0).isLt
    have hj1 : (j 1).val < 128 := (j 1).isLt
    have ht : 100 + (j 0).val / 128 < grid0.N := by omega
    refine ⟨⟨100 + (j 0).val / 128, ht⟩, ?_, ?_⟩
    · rw [flush4, decide_eq_true_eq]
      show 100 ≤ 100 + _
      omega
    · refine emb4_mem m _ (ix2 (⟨(j 0).val % 128, Nat.mod_lt _ (by decide)⟩ : Fin 128) (⟨(j 1).val, hj1⟩ : Fin 128)) j ?_
      funext a
      fin_cases a
      · refine Fin.ext ((emb4_0 m _ _).trans ?_)
        show (100 + (j 0).val / 128 - 100) * 128 + (j 0).val % 128 = (j 0).val
        omega
      · exact Fin.ext (emb4_1 m _ _)

end Cert.KernelIdeal.Hand

end
-- ==== Proof.Spec.lean ====
/-
  The linear layer's value at a row and a column, as a sum over the features, the positions and the bias.
-/
module

public import Idealize.ShloMosaic.PureOps.Ideal.Laws

@[expose] public section

noncomputable section

namespace Cert.Spec

/-- Features times the first 128 rows of the weights, positions times the last three, and the bias. -/
def lin (x : Fin 320000 → Fin 128 → EReal) (p : Fin 320000 → Fin 3 → EReal) (w : Fin 131 → Fin 128 → EReal) (b : Fin 128 → EReal)
    (r : Fin 320000) (l : Fin 128) : EReal :=
  (∑ k : Fin 128, x r k * w (k.castAdd 3) l) + (∑ k : Fin 3, p r k * w (k.natAdd 128) l) + b l

end Cert.Spec

end
-- ==== Proof.Linear.lean ====
/-
  The products of the kernel's row blocks are the linear layer's values of the arguments.
-/
module

public import proofs.«01_k».proof.Proof.Value
public import proofs.«01_k».proof.Proof.Spec
public import Idealize.ShloMosaic.Lib.MatmulPlain
public import Idealize.ShloMosaic.Lib.IdealHost

@[expose] public section

set_option maxRecDepth 16384

noncomputable section

namespace Cert.KernelIdeal.Hand

open Cert.KernelIdeal Cert.KernelIdeal.Gen

open Idealize.ShloMosaic
open Idealize.ShloMosaic.TcCoe
open Idealize.ShloMosaic.ValueIdx

/-! ### A block's products -/

theorem prod_apply (xb : Vec Ideal S3200x128 .f32) (pb : Vec Ideal S3200x4 .f32) (wb : Vec Ideal S128x128 .f32) (vb : Vec Ideal S4x128 .f32)
    (r : Fin 3200) (l : Fin 128) :
    (prod xb pb wb vb (ix2 r l) : EReal) = (∑ k : Fin 128, (xb (ix2 r k) : EReal) * wb (ix2 k l)) + ∑ k : Fin 4, (pb (ix2 r k) : EReal) * vb (ix2 k l) := by
  have id1 : shapeCast S128x128 wb shapeCasts_S128x128_S128x128 = wb := funext fun i => shapeCast_apply _ _ i i rfl
  have id2 : shapeCast S3200x4 pb shapeCasts_S3200x4_S3200x4 = pb := funext fun i => shapeCast_apply _ _ i i rfl
  have id3 : shapeCast S4x128 vb shapeCasts_S4x128_S4x128 = vb := funext fun i => shapeCast_apply _ _ i i rfl
  unfold prod k0_pay2
  rw [id1, id2, id3, shapeCast_apply _ _ _ (ix2 r l) rfl]
  have h1 := Ideal.matmul_plain_apply (M := 3200) (K := 128) (N := 128) (φ₁ := .f32) (φ₂ := .f32) none xb wb (constant (F := Ideal) S3200x128 .f32 0x00000000#32) r l
  have h2 := Ideal.matmul_plain_apply (M := 3200) (K := 4) (N := 128) (φ₁ := .f32) (φ₂ := .f32) none pb vb (constant (F := Ideal) S3200x128 .f32 0x00000000#32) r l
  have h0 : (constant (F := Ideal) S3200x128 .f32 0x00000000#32 (ix2 r l) : EReal) = 0 := lit_zero
  rw [h0, zero_add] at h1 h2
  exact congrArg₂ (fun a b : EReal => a + b) h1 h2

variable (m : (ℓ : Loc nD τ sig) → Buf (Elt Ideal) ℓ) (c : Dev nD)

/-! ### The blocks of the arguments -/

theorem idx0 : ∀ t : Fin grid0.N, cc0_transform_0 (grid0.coords t) = ![min t.val 99, 0] := by decide
theorem idx1 : ∀ t : Fin grid0.N, cc0_transform_1 (grid0.coords t) = ![min t.val 99, 0] := by decide

theorem iblk0 (t : Fin grid0.N) (ht : t.val < 100) (r : Fin 3200) (k : Fin 128) :
    (iblk m c 0 t : Vec Ideal S3200x128 .f32) (ix2 r k) = (V m c main_arg0 : Vec Ideal S320000x128 .f32) (ix2 (⟨3200 * t.val + r.val, by omega⟩ : Fin 320000) k) := by
  refine congrArg (V m c main_arg0 : Vec Ideal S320000x128 .f32) (show (((cfgA m).win 0).rect t).emb (ix2 r k) = _ from ?_)
  have e : ((cfgA m).win 0).index t = ![min t.val 99, 0] := idx0 t
  funext a
  fin_cases a
  · refine Fin.ext ((Pipeline.Window.rect_emb_val ((cfgA m).win 0) t (ix2 r k) ⟨0, (by decide : 0 < 2)⟩ rfl).trans ?_)
    rw [e]
    show min t.val 99 * 3200 + r.val = 3200 * t.val + r.val
    omega
  · refine Fin.ext ((Pipeline.Window.rect_emb_val ((cfgA m).win 0) t (ix2 r k) ⟨1, (by decide : 1 < 2)⟩ rfl).trans ?_)
    rw [e]
    show 0 * 128 + k.val = k.val
    omega

theorem iblk1 (t : Fin grid0.N) (ht : t.val < 100) (r : Fin 3200) (k : Fin 4) :
    (iblk m c 1 t : Vec Ideal S3200x4 .f32) (ix2 r k) = (V m c main_v7 : Vec Ideal S320000x4 .f32) (ix2 (⟨3200 * t.val + r.val, by omega⟩ : Fin 320000) k) := by
  refine congrArg (V m c main_v7 : Vec Ideal S320000x4 .f32) (show (((cfgA m).win 1).rect t).emb (ix2 r k) = _ from ?_)
  have e : ((cfgA m).win 1).index t = ![min t.val 99, 0] := idx1 t
  funext a
  fin_cases a
  · refine Fin.ext ((Pipeline.Window.rect_emb_val ((cfgA m).win 1) t (ix2 r k) ⟨0, (by decide : 0 < 2)⟩ rfl).trans ?_)
    rw [e]
    show min t.val 99 * 3200 + r.val = 3200 * t.val + r.val
    omega
  · refine Fin.ext ((Pipeline.Window.rect_emb_val ((cfgA m).win 1) t (ix2 r k) ⟨1, (by decide : 1 < 2)⟩ rfl).trans ?_)
    rw [e]
    show 0 * 4 + k.val = k.val
    omega

theorem iblk2 (t : Fin grid0.N) (k : Fin 128) (l : Fin 128) :
    (iblk m c 2 t : Vec Ideal S128x128 .f32) (ix2 k l) = (V m c main_v5 : Vec Ideal S128x128 .f32) (ix2 k l) := by
  refine congrArg (V m c main_v5 : Vec Ideal S128x128 .f32) (show (((cfgA m).win 2).rect t).emb (ix2 k l) = _ from ?_)
  have e : ((cfgA m).win 2).index t = ![0, 0] := rfl
  funext a
  fin_cases a
  · refine Fin.ext ((Pipeline.Window.rect_emb_val ((cfgA m).win 2) t (ix2 k l) ⟨0, (by decide : 0 < 2)⟩ rfl).trans ?_)
    rw [e]
    show 0 * 128 + k.val = k.val
    omega
  · refine Fin.ext ((Pipeline.Window.rect_emb_val ((cfgA m).win 2) t (ix2 k l) ⟨1, (by decide : 1 < 2)⟩ rfl).trans ?_)
    rw [e]
    show 0 * 128 + l.val = l.val
    omega

theorem iblk3 (t : Fin grid0.N) (k : Fin 4) (l : Fin 128) :
    (iblk m c 3 t : Vec Ideal S4x128 .f32) (ix2 k l) = (V m c main_v10 : Vec Ideal S4x128 .f32) (ix2 k l) := by
  refine congrArg (V m c main_v10 : Vec Ideal S4x128 .f32) (show (((cfgA m).win 3).rect t).emb (ix2 k l) = _ from ?_)
  have e : ((cfgA m).win 3).index t = ![0, 0] := rfl
  funext a
  fin_cases a
  · refine Fin.ext ((Pipeline.Window.rect_emb_val ((cfgA m).win 3) t (ix2 k l) ⟨0, (by decide : 0 < 2)⟩ rfl).trans ?_)
    rw [e]
    show 0 * 4 + k.val = k.val
    omega
  · refine Fin.ext ((Pipeline.Window.rect_emb_val ((cfgA m).win 3) t (ix2 k l) ⟨1, (by decide : 1 < 2)⟩ rfl).trans ?_)
    rw [e]
    show 0 * 128 + l.val = l.val
    omega

/-! ### The operands, at an index -/

variable (x0 : Vec Ideal S320000x128 .f32) (x1 : Vec Ideal S320000x3 .f32) (x3 : Vec Ideal S131x128 .f32) (x4 : Vec Ideal S128 .f32)

theorem wx_at (k l : Fin 128) : extractStridedSlice S128x128 ![0, 0] x3 slices_S131x128_S128x128_0_0 (ix2 k l) = x3 (ix2 (k.castAdd 3) l) := by
  refine extractStridedSlice_apply _ _ _ _ _ fun a => ?_
  fin_cases a
  · show k.val = 0 + k.val
    omega
  · show l.val = 0 + l.val
    omega

theorem pos_at (r : Fin 320000) (k : Fin 3) : concatenate S320000x4 1 [⟨S320000x3, x1⟩,
    ⟨S320000x1, broadcastInDim S320000x1 ![] bcast_S_S320000x1 (constant (F := Ideal) S_ .f32 0x3F800000#32)⟩] concatenates_S320000x3_S320000x1_S320000x4_d1 (ix2 r k.castSucc)
      = x1 (ix2 r k) := by
  refine concatenate_pair_apply_left (t := S320000x4) (s₁ := S320000x3) (s₂ := S320000x1) 1 _ _ _ _ rfl (ix2 r k) fun a => ?_
  fin_cases a <;> rfl

theorem pos_last (r : Fin 320000) : (concatenate S320000x4 1 [⟨S320000x3, x1⟩,
    ⟨S320000x1, broadcastInDim S320000x1 ![] bcast_S_S320000x1 (constant (F := Ideal) S_ .f32 0x3F800000#32)⟩] concatenates_S320000x3_S320000x1_S320000x4_d1 (ix2 r (Fin.last 3)) : EReal)
      = 1 := by
  refine (concatenate_pair_apply_right (t := S320000x4) (s₁ := S320000x3) (s₂ := S320000x1) 1 _ _ _ _ rfl rfl (ix2 r (0 : Fin 1)) (fun a ha => ?_) rfl).trans ?_
  · fin_cases a
    · rfl
    · exact absurd rfl ha
  · exact Ideal.ofBits_one_f32

theorem wp_at (k : Fin 3) (l : Fin 128) : concatenate S4x128 0 [⟨S3x128, extractStridedSlice S3x128 ![128, 0] x3 slices_S131x128_S3x128_128_0⟩,
    ⟨S1x128, shapeCast S1x128 x4 shapeCasts_S128_S1x128⟩] concatenates_S3x128_S1x128_S4x128_d0 (ix2 k.castSucc l) = x3 (ix2 (k.natAdd 128) l) := by
  refine (concatenate_pair_apply_left (t := S4x128) (s₁ := S3x128) (s₂ := S1x128) 0 _ _ _ _ rfl (ix2 k l) fun a => ?_).trans ?_
  · fin_cases a <;> rfl
  · refine extractStridedSlice_apply _ _ _ _ _ fun a => ?_
    fin_cases a
    · rfl
    · show l.val = 0 + l.val
      omega

theorem wp_last (l : Fin 128) : concatenate S4x128 0 [⟨S3x128, extractStridedSlice S3x128 ![128, 0] x3 slices_S131x128_S3x128_128_0⟩,
    ⟨S1x128, shapeCast S1x128 x4 shapeCasts_S128_S1x128⟩] concatenates_S3x128_S1x128_S4x128_d0 (ix2 (Fin.last 3) l) = x4 (ix1 l) := by
  refine (concatenate_pair_apply_right (t := S4x128) (s₁ := S3x128) (s₂ := S1x128) 0 _ _ _ _ rfl rfl (ix2 (0 : Fin 1) l) (fun a ha => ?_) rfl).trans ?_
  · fin_cases a
    · exact absurd rfl ha
    · rfl
  · refine shapeCast_apply _ _ _ _ ?_
    rw [Shape.rowMajor_val_two, Shape.rowMajor_val_one]
    show l.val = 0 * 128 + l.val
    omega

/-- A row's product is the linear layer's value. -/
theorem hrow_eq (r : ℕ) (hr : r < 320000) (l : Fin 128) :
    hrow m c r hr l = Spec.lin (fun r k => (m ((c : Thread nD τ).loc main_arg0) : Vec Ideal S320000x128 .f32) (ix2 r k))
      (fun r k => (m ((c : Thread nD τ).loc main_arg1) : Vec Ideal S320000x3 .f32) (ix2 r k))
      (fun k l => (m ((c : Thread nD τ).loc main_arg3) : Vec Ideal S131x128 .f32) (ix2 k l))
      (fun l => (m ((c : Thread nD τ).loc main_arg4) : Vec Ideal S128 .f32) (ix1 l)) ⟨r, hr⟩ l := by
  unfold hrow prodAt
  rw [prod_apply, Fin.sum_univ_castSucc (n := 3)]
  have hN := N108
  have er : (⟨3200 * (r / 3200) + r % 3200, by omega⟩ : Fin 320000) = ⟨r, hr⟩ := Fin.ext (by show 3200 * (r / 3200) + r % 3200 = r; omega)
  unfold Spec.lin
  rw [add_assoc]
  refine congrArg₂ (fun a b : EReal => a + b) (Finset.sum_congr rfl fun k _ => ?_) (congrArg₂ (fun a b : EReal => a + b) (Finset.sum_congr rfl fun k _ => ?_) ?_)
  · rw [iblk0 m c _ (by show r / 3200 < 100; omega), iblk2, V_args m c main_arg0 (by simp), V_wx, wx_at]
    exact congrArg₂ (fun a b : EReal => a * b) (congrArg (fun j : Fin 320000 => (m ((c : Thread nD τ).loc main_arg0) : Vec Ideal S320000x128 .f32) (ix2 j k)) er) rfl
  · rw [iblk1 m c _ (by show r / 3200 < 100; omega), iblk3, V_pos, V_wp, pos_at, wp_at]
    exact congrArg₂ (fun a b : EReal => a * b) (congrArg (fun j : Fin 320000 => (m ((c : Thread nD τ).loc main_arg1) : Vec Ideal S320000x3 .f32) (ix2 j k)) er) rfl
  · rw [iblk1 m c _ (by show r / 3200 < 100; omega), iblk3, V_pos, V_wp, pos_last, wp_last]
    exact one_mul _

end Cert.KernelIdeal.Hand

end
-- ==== Proof.Ref.lean ====
/-
  The reference's first result, by the upper bounds each element has: an element is below `z` exactly
  when zero is and each value of the linear layer at its segment's rows is.
-/
module

public import proofs.«01_k».proof.Proof.Gen.ReferenceIdeal.Read
public import proofs.«01_k».proof.Proof.Spec
public import Idealize.ShloMosaic.Lib.Routing.OpsPair
public import Idealize.ShloMosaic.Lib.IdealHost

@[expose] public section

set_option maxRecDepth 16384

noncomputable section

namespace Cert.ReferenceIdeal.Hand

open Cert.ReferenceIdeal Cert.ReferenceIdeal.Gen Cert.ReferenceIdeal.Read

open Idealize.ShloMosaic
open Idealize.ShloMosaic.TcCoe
open Idealize.ShloMosaic.ValueIdx
open Idealize.ShloMosaic.StableHlo.Predicate

variable (x0 : Vec Ideal S320000x128 .f32) (x1 : Vec Ideal S320000x3 .f32) (x2 : IVec S320000 32) (x3 : Vec Ideal S131x128 .f32) (x4 : Vec Ideal S128 .f32)

/-- The linear layer of the arguments. -/
abbrev linOf (r : Fin 320000) (l : Fin 128) : EReal :=
  Spec.lin (fun r k => x0 (ix2 r k)) (fun r k => x1 (ix2 r k)) (fun k l => x3 (ix2 k l)) (fun l => x4 (ix1 l)) r l

theorem lit_bot : (FloatOps.ofBits .f32 0xFF800000#32 : Ideal .f32) = (⊥ : EReal) := by
  show Ideal.ofBits .f32 0xFF800000#32 = ⊥
  simp [Ideal.ofBits, Ideal.ieee]

/-! ### The linear layer -/

theorem cat_left (r : Fin 320000) (k : Fin 128) : val_main_v0 (F := Ideal) x0 x1 (ix2 r (k.castAdd 3)) = x0 (ix2 r k) := by
  unfold val_main_v0
  refine concatenate_pair_apply_left (t := S320000x131) (s₁ := S320000x128) (s₂ := S320000x3) 1 _ _ _ _ rfl (ix2 r k) fun a => ?_
  fin_cases a <;> rfl

theorem cat_right (r : Fin 320000) (k : Fin 3) : val_main_v0 (F := Ideal) x0 x1 (ix2 r (k.natAdd 128)) = x1 (ix2 r k) := by
  unfold val_main_v0
  refine concatenate_pair_apply_right (t := S320000x131) (s₁ := S320000x128) (s₂ := S320000x3) 1 _ _ _ _ rfl rfl (ix2 r k) (fun a ha => ?_) ?_
  · fin_cases a
    · rfl
    · exact absurd rfl ha
  · show k.val + 128 = 128 + k.val
    omega

theorem v4_at (r : Fin 320000) (l : Fin 128) : (val_main_v4 (F := Ideal) x0 x1 x3 x4 (ix2 r l) : EReal) = linOf x0 x1 x3 x4 r l := by
  rw [val_main_v4_apply, val_main_v1_apply, val_main_v3_apply, val_main_v2_apply]
  unfold linOf Spec.lin
  have h := Fin.sum_univ_add (a := 128) (b := 3) fun k : Fin 131 => ((val_main_v0 (F := Ideal) x0 x1) (lidx_main_v1 (ix2 r l) k) * x3 (ridx_main_v1 (ix2 r l) k) : EReal)
  refine congrArg₂ (fun a b : EReal => a + b) (h.trans (congrArg₂ (fun a b : EReal => a + b) (Finset.sum_congr rfl fun k _ => ?_) (Finset.sum_congr rfl fun k _ => ?_))) ?_
  · refine congrArg₂ (fun a b : EReal => a * b) ((congrArg (val_main_v0 (F := Ideal) x0 x1) ?_).trans (cat_left x0 x1 r k)) (congrArg x3 ?_)
    · funext a; fin_cases a <;> rfl
    · funext a; fin_cases a <;> rfl
  · refine congrArg₂ (fun a b : EReal => a * b) ((congrArg (val_main_v0 (F := Ideal) x0 x1) ?_).trans (cat_right x0 x1 r k)) (congrArg x3 ?_)
    · funext a; fin_cases a <;> rfl
    · funext a; fin_cases a <;> rfl
  · refine congrArg x4 ?_
    funext a; fin_cases a; rfl

theorem v6_le (r : Fin 320000) (l : Fin 128) (z : EReal) :
    (val_main_v6 (F := Ideal) x0 x1 x3 x4 (ix2 r l) : EReal) ≤ z ↔ linOf x0 x1 x3 x4 r l ≤ z ∧ 0 ≤ z := by
  rw [val_main_v6_apply, val_main_v5_apply, val_main_cst_apply, ← v4_at]
  have h : (FloatOps.ofBits .f32 0x00000000#32 : Ideal .f32) = (0 : EReal) := Ideal.ofBits_zero_f32
  rw [h]
  exact max_le_iff

/-! ### The masked maximum -/

theorem mask_at (hlt : ∀ r : Fin 320000, (x2 (ix1 r)).toNat < 1024) (s : Fin 1024) (r : Fin 320000) (l : Fin 128) :
    val_main_call0_v1 (F := Ideal) x2 (ix3 s r l) = 1#1 ↔ (x2 (ix1 r)).toNat = s.val := by
  rw [val_main_call0_v1_apply, val_main_v13_apply, val_main_v12_apply, val_main_v10_apply, val_main_v8_apply, val_main_v11_apply, val_main_v9_apply, val_main_v7_apply]
  have e : idx_main_v8 (idx_main_v10 (idx_main_v13 (idx_main_call0_v1 (ix3 s r l)))) = ix1 r := by
    funext a; fin_cases a; rfl
  rw [e, cmpi_eq_iff]
  show x2 (ix1 r) = BitVec.ofNat 32 s.val ↔ _
  have hs := s.isLt
  have := hlt r
  constructor
  · intro h
    rw [h, BitVec.toNat_ofNat, Nat.mod_eq_of_lt (by omega)]
  · intro h
    refine BitVec.eq_of_toNat_eq ?_
    rw [BitVec.toNat_ofNat, Nat.mod_eq_of_lt (by omega), h]

theorem v15_le (hlt : ∀ r : Fin 320000, (x2 (ix1 r)).toNat < 1024) (s : Fin 1024) (r : Fin 320000) (l : Fin 128) (z : EReal) :
    (val_main_v15 (F := Ideal) x0 x1 x2 x3 x4 (ix3 s r l) : EReal) ≤ z ↔ ((x2 (ix1 r)).toNat = s.val → linOf x0 x1 x3 x4 r l ≤ z ∧ 0 ≤ z) := by
  rw [val_main_v15_apply]
  by_cases h : (x2 (ix1 r)).toNat = s.val
  · rw [(mask_at x2 hlt s r l).2 h, select_one, val_main_call0_v2_apply, val_main_v14_apply]
    have e : idx_main_v14 (idx_main_call0_v2 (ix3 s r l)) = ix2 r l := by
      funext a; fin_cases a <;> rfl
    rw [e, v6_le]
    exact ⟨fun h1 _ => h1, fun h1 => h1 h⟩
  · rw [eq_zero_of_ne_one (fun h' => h ((mask_at x2 hlt s r l).1 h')), select_zero, val_main_call0_v3_apply, val_main_call0_v0_apply, val_main_cst_0_apply, lit_bot]
    exact ⟨fun _ h1 => absurd h1 h, fun _ => bot_le⟩

theorem red3 : S1024x320000x128.Reduces [1] S1024x128 := by decide

theorem v16_le (hlt : ∀ r : Fin 320000, (x2 (ix1 r)).toNat < 1024) (s : Fin 1024) (l : Fin 128) (z : EReal) :
    (val_main_v16 (F := Ideal) x0 x1 x2 x3 x4 (ix2 s l) : EReal) ≤ z ↔ ∀ r : Fin 320000, (x2 (ix1 r)).toNat = s.val → linOf x0 x1 x3 x4 r l ≤ z ∧ 0 ≤ z := by
  unfold val_main_v16
  rw [Host.reduce_eq_fold_single _ _ _ _ red3]
  refine (Finset.fold_max_le _).trans ?_
  rw [val_main_cst_1_apply, lit_bot]
  simp only [bot_le, true_and, Finset.mem_univ, forall_const, Function.comp]
  refine forall_congr' fun (r : Fin 320000) => ?_
  rw [show red3.lift (ix2 s l) r = ix3 s r l from funext fun a => Fin.ext (by fin_cases a <;> rfl)]
  exact v15_le x0 x1 x2 x3 x4 hlt s r l z

/-! ### The counts -/

/-- A fold adding one at the members of `p`. -/
theorem foldl_ones {ι : Type} (p : ι → Bool) (L : List ι) : ∀ a : BitVec 32, a.toNat + L.length < 2 ^ 31 →
    (L.foldl (fun a n => if p n = true then IntOp.addi a 1#32 else a) a).toNat = a.toNat + L.countP p := by
  induction L with
  | nil => intro a _; rfl
  | cons n L ih =>
    intro a h
    rw [List.length_cons] at h
    rw [List.foldl_cons, List.countP_cons]
    by_cases hp : p n = true
    · have e : (IntOp.addi a 1#32).toNat = a.toNat + 1 := by
        show (a + 1#32 : BitVec 32).toNat = _
        rw [BitVec.toNat_add, BitVec.toNat_ofNat]
        omega
      rw [if_pos hp, if_pos hp, ih _ (by omega), e]
      omega
    · rw [if_neg hp, if_neg hp, ih _ (by omega)]
      omega

/-- A row's index word is its segment word. -/
theorem v24_at (hlt : ∀ r : Fin 320000, (x2 (ix1 r)).toNat < 1024) (i : S320000x1.Idx) (r : Fin 320000) (hi : (i 0).val = r.val) :
    val_main_v24 (F := Ideal) x2 i = x2 (ix1 r) := by
  have e : idx_main_v24 i = ix1 r := by funext a; fin_cases a; exact Fin.ext hi
  have hr := hlt r
  have e0 : val_main_v18 (F := Ideal) x2 (ix1 r) = x2 (ix1 r) := by
    rw [val_main_v18_apply, val_main_call1_v1_apply, val_main_call1_v0_apply, val_main_c_2_apply]
    generalize x2 (ix1 r) = w at hr
    unfold IntOp.maxsi
    refine if_neg fun h => ?_
    have h1 := (slt_bool_iff_toNat (a := w) (b := 0#32) (by omega) (by decide)).1 (by rw [h]; rfl)
    exact absurd h1 (Nat.not_lt_zero _)
  rw [val_main_v24_apply, e, val_main_v23_apply, val_main_v20_apply, e0, val_main_v19_apply, val_main_c_3_apply]
  rw [eq_zero_of_ne_one (fun h => absurd ((slt_iff_toNat (by omega) (by decide)).1 h) (Nat.not_lt_zero _)), select_zero]

/-- Where a row's one lands. -/
theorem lands (hlt : ∀ r : Fin 320000, (x2 (ix1 r)).toNat < 1024) (k : S320000.Idx) (s : Fin 1024) :
    scatter_S1024_S320000x1_S320000_n_0_0_1.resultIdx? k (val_main_v24 (F := Ideal) x2) = some (ix1 s) ↔ (x2 (ix1 (k 0))).toNat = s.val := by
  refine (Routing.resultIdx?_ix1 (N := 1024) scatter_S1024_S320000x1_S320000_n_0_0_1 k (val_main_v24 (F := Ideal) x2) s).trans ?_
  have hw : scatter_S1024_S320000x1_S320000_n_0_0_1.window k 0 = 0 := by
    unfold ScatterDims.window
    rw [dif_neg (show ¬ (0 : Fin S1024.rank) ∈ scatter_S1024_S320000x1_S320000_n_0_0_1.sKept by decide)]
  have hs : scatter_S1024_S320000x1_S320000_n_0_0_1.start k (val_main_v24 (F := Ideal) x2) 0 = ((x2 (ix1 (k 0))).toNat : Int) := by
    unfold ScatterDims.start
    rw [dif_pos (show (0 : Fin S1024.rank) ∈ scatter_S1024_S320000x1_S320000_n_0_0_1.scatterDimsToOperandDims by decide), v24_at x2 hlt _ (k 0) rfl]
    have hr := hlt (k 0)
    exact BitVec.toInt_eq_toNat_of_lt (by omega)
  rw [hw, hs]
  omega

theorem count_pos (hlt : ∀ r : Fin 320000, (x2 (ix1 r)).toNat < 1024) (s : Fin 1024) :
    val_main_v28 (F := Ideal) x2 (ix1 s) = 1#1 ↔ ∃ r : Fin 320000, (x2 (ix1 r)).toNat = s.val := by
  have hc : (val_main_v26 (F := Ideal) x2 (ix1 s)).toNat
      = (List.finRange S320000.numel).countP fun n => decide ((x2 (ix1 ((S320000.rowMajor.symm n) 0))).toNat = s.val) := by
    unfold val_main_v26
    rw [Routing.scatter_at]
    have e0 : (val_main_v17 (F := Ideal) (ix1 s)).toNat = 0 := by
      rw [val_main_v17_apply, val_main_c_apply]; rfl
    have hn : (List.finRange S320000.numel).length = 320000 := List.length_finRange.trans (by decide)
    refine Eq.trans ?_ ((foldl_ones _ _ _ (by rw [e0, hn]; decide)).trans (by rw [e0, Nat.zero_add]))
    refine congrArg BitVec.toNat (congrArg (fun f => List.foldl f _ _) (funext fun a => funext fun n => ?_))
    refine if_congr ((lands x2 hlt _ s).trans decide_eq_true_iff.symm) ?_ rfl
    rw [val_main_v25_apply, val_main_c_5_apply]
  have hle : (val_main_v26 (F := Ideal) x2 (ix1 s)).toNat ≤ 320000 := by
    rw [hc]
    exact List.countP_le_length.trans (List.length_finRange.trans (by decide)).le
  rw [val_main_v28_apply, val_main_v27_apply, val_main_c_6_apply, sgt_iff_toNat (by omega) (by decide), hc]
  show 0 < _ ↔ _
  rw [List.countP_pos_iff]
  constructor
  · rintro ⟨n, -, h⟩
    exact ⟨_, of_decide_eq_true h⟩
  · rintro ⟨r, h⟩
    refine ⟨S320000.rowMajor (ix1 r), List.mem_finRange _, decide_eq_true ?_⟩
    rw [Equiv.symm_apply_apply]
    exact h

/-! ### The result -/

theorem v30_le (hlt : ∀ r : Fin 320000, (x2 (ix1 r)).toNat < 1024) (s : Fin 1024) (l : Fin 128) (z : EReal) :
    (val_main_v30 (F := Ideal) x0 x1 x2 x3 x4 (ix2 s l) : EReal) ≤ z ↔ 0 ≤ z ∧ ∀ r : Fin 320000, (x2 (ix1 r)).toNat = s.val → linOf x0 x1 x3 x4 r l ≤ z := by
  rw [val_main_v30_apply, val_main_call2_v1_apply, val_main_v29_apply]
  have e : idx_main_v29 (idx_main_call2_v1 (ix2 s l)) = ix1 s := by funext a; fin_cases a; rfl
  rw [e]
  by_cases h : ∃ r : Fin 320000, (x2 (ix1 r)).toNat = s.val
  · rw [(count_pos x2 hlt s).2 h, select_one, v16_le x0 x1 x2 x3 x4 hlt]
    obtain ⟨r0, h0⟩ := h
    exact ⟨fun h1 => ⟨(h1 r0 h0).2, fun r hr => (h1 r hr).1⟩, fun h1 r hr => ⟨h1.2 r hr, h1.1⟩⟩
  · rw [eq_zero_of_ne_one (fun h' => h ((count_pos x2 hlt s).1 h')), select_zero, val_main_call2_v2_apply, val_main_call2_v0_apply, val_main_cst_7_apply]
    have h0 : (FloatOps.ofBits .f32 0x00000000#32 : Ideal .f32) = (0 : EReal) := Ideal.ofBits_zero_f32
    rw [h0]
    exact ⟨fun h1 => ⟨h1, fun r hr => absurd ⟨r, hr⟩ h⟩, fun h1 => h1.1⟩

end Cert.ReferenceIdeal.Hand

end
-- ==== Proof.Equal.lean ====
/-
  The kernel's first result is the reference's first result of the same arguments.
-/
module

public import proofs.«01_k».proof.Proof.Linear
public import proofs.«01_k».proof.Proof.Ref

@[expose] public section

set_option maxRecDepth 16384

noncomputable section

namespace Cert.KernelIdeal.Hand

open Cert.KernelIdeal Cert.KernelIdeal.Gen

open Idealize.ShloMosaic
open Idealize.ShloMosaic.TcCoe
open Idealize.ShloMosaic.ValueIdx

variable (m : (ℓ : Loc nD τ sig) → Buf (Elt Ideal) ℓ)

/-- The reference's first result of the arguments device `c` holds. -/
abbrev refOf (c : Dev nD) : Vec Ideal S1024x128 .f32 :=
  ReferenceIdeal.Read.val_main_v30 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem pooled_ref (hs : Sorted (segs m)) (c : Dev nD) : pooled m c = refOf m c := by
  obtain rfl : c = 0 := Subsingleton.elim _ _
  rw [pooled_eq]
  funext (j : S1024x128.Idx)
  obtain ⟨s, hs', l, rfl⟩ : ∃ (s : ℕ) (hs' : s < 1024) (l : Fin 128), j = ix2 (⟨s, hs'⟩ : Fin 1024) l :=
    ⟨(j 0).val, (j 0).isLt, ⟨(j 1).val, (j 1).isLt⟩, by funext a; fin_cases a <;> rfl⟩
  show outRow m 0 s hs' l = (refOf m 0 (ix2 (⟨s, hs'⟩ : Fin 1024) l) : EReal)
  have hseg : ∀ (r : ℕ) (hr : r < 320000), seg (segs m) r = ((segs m) (ix1 ⟨r, hr⟩)).toNat := fun r hr => dif_pos hr
  have hlt : ∀ r : Fin 320000, ((segs m) (ix1 r)).toNat < 1024 := fun r => by
    have := hs.lt r.val r.isLt
    rwa [hseg r.val r.isLt] at this
  refine eq_of_forall_ge_iff fun z => ?_
  rw [outRow_le m 0 hs]
  refine Iff.trans ?_ (ReferenceIdeal.Hand.v30_le _ _ (segs m) _ _ hlt ⟨s, hs'⟩ l z).symm
  refine and_congr_right fun _ => ⟨fun h r hr => ?_, fun h r hr hr' => ?_⟩
  · have h1 := h r.val r.isLt ((hseg r.val r.isLt).trans hr)
    rw [hrow_eq] at h1
    exact h1
  · rw [hrow_eq]
    exact h ⟨r, hr⟩ ((hseg r hr).symm.trans hr')

end Cert.KernelIdeal.Hand

end
-- ==== Proof.lean ====
/-
  The certificate: the kernel's frames at the two instances, the reference's, and the equality of
  their results at the ideal instance.
-/
module

public import proofs.«01_k».proof.Defs
public import proofs.«01_k».proof.Proof.Frame
public import proofs.«01_k».proof.Proof.Bits.Frame
public import proofs.«01_k».proof.Proof.Equal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL
open TcCoe

/-- The kernel at the bit patterns runs on sorted ids and leaves its arguments and counters as they were. -/
theorem frame_bits : quiescent_Kernel := by
  intro m g h
  exact (θ_run _ _ _).mono
    (fun r hr => ⟨fun c => ((hr.1 c).2.2).2, hr.2⟩)
    (Cert.Kernel.Hand.run_sorted m g (Cert.Kernel.Hand.sorted_of_pre _ _ _ _ _ (h 0)))

/-- The same at the ideal instance. -/
theorem frame_ideal : quiescent_KernelIdeal := by
  intro m g h
  exact (θ_run _ _ _).mono
    (fun r hr => ⟨fun c => ((hr.1 c).2.2).2, hr.2⟩)
    (Cert.KernelIdeal.Hand.run_sorted m g (Cert.KernelIdeal.Hand.sorted_of_pre _ _ _ _ _ (h 0)))

/-- The reference runs from any memory; it has no semaphore at all. -/
theorem frame_ref : quiescent_ReferenceIdeal := by
  intro m g _
  exact (θ_run _ _ _).mono
    (fun r hr => ⟨fun c => (hr c).2.2.2, sem_eq_zero_of_no_sems (by decide) r.2⟩)
    (Cert.ReferenceIdeal.Value.run m g)

/-- In particular from a memory of sorted ids. -/
theorem frame_ref_pre : quiescent_ReferenceIdeal_pre_sorted_ids := by
  intro m g _
  exact frame_ref m g trivial

/-- From equal arguments of sorted ids the kernel and the reference leave equal results. -/
theorem equal_ideal : algebraic_KernelIdeal_ReferenceIdeal := by
  intro m g m' g' h hargs
  have hs : Cert.KernelIdeal.Hand.Sorted (Cert.KernelIdeal.Hand.segs m) := Cert.KernelIdeal.Hand.sorted_of_pre _ _ _ _ _ (h 0)
  refine ⟨fun c => Cert.KernelIdeal.Hand.refOf m c, fun _ => Cert.ReferenceIdeal.Read.val_main_v31 (F := Ideal),
    fun _ => Cert.ReferenceIdeal.Read.val_main_v32 (F := Ideal), ?_, ?_⟩
  · exact (θ_run _ _ _).mono
      (fun r hr c => ⟨(hr.1 c).1.trans (Cert.KernelIdeal.Hand.pooled_ref m hs c), (hr.1 c).2⟩)
      (Cert.KernelIdeal.Hand.run_sorted m g hs)
  · refine (θ_run _ _ _).mono (fun r hr c => ⟨(hr c).1.trans ?_, (hr c).2⟩) (Cert.ReferenceIdeal.Value.run m' g')
    obtain ⟨h0, h1, h2, h3, h4⟩ := hargs c
    refine (Cert.ReferenceIdeal.Read.val_main_v30_eq _ _ _ _ _).trans ?_
    rw [h0, h1, h2, h3, h4]

theorem claim : Cert.Claim :=
  ⟨Cert.Kernel.Gen.facts, Cert.KernelIdeal.Gen.facts, Cert.ReferenceIdeal.Gen.facts, Cert.Pre_sorted_ids.Gen.facts,
    frame_bits, frame_ideal, frame_ref, frame_ref_pre, trivial, equal_ideal⟩

end Cert.Proof

end
